-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_in" .f32 0x3AA9C84A#32 ((1 / 772 : ℝ) : EReal)

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v158) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S8x512x256 : Shape := ⟨3, ![8, 512, 256]⟩
abbrev S772 : Shape := ⟨1, ![772]⟩
abbrev S772x256 : Shape := ⟨2, ![772, 256]⟩
abbrev S256 : Shape := ⟨1, ![256]⟩
abbrev S256x256 : Shape := ⟨2, ![256, 256]⟩
abbrev S_ : Shape := ⟨0, ![]⟩
abbrev S8x512 : Shape := ⟨2, ![8, 512]⟩
abbrev S8x512x1 : Shape := ⟨3, ![8, 512, 1]⟩
abbrev S8x1x512 : Shape := ⟨3, ![8, 1, 512]⟩
abbrev S8x512x512 : Shape := ⟨3, ![8, 512, 512]⟩
abbrev S512x512 : Shape := ⟨2, ![512, 512]⟩
abbrev S1x512x512 : Shape := ⟨3, ![1, 512, 512]⟩
abbrev S8x512x4 : Shape := ⟨3, ![8, 512, 4]⟩
abbrev S8x512x3 : Shape := ⟨3, ![8, 512, 3]⟩
abbrev S12288 : Shape := ⟨1, ![12288]⟩
abbrev S1048576 : Shape := ⟨1, ![1048576]⟩
abbrev S197632 : Shape := ⟨1, ![197632]⟩
abbrev S1259268 : Shape := ⟨1, ![1259268]⟩

class Facts : Prop where
  reducesTo_S8x512x256_S8x512_d2 : S8x512x256.ReducesTo [2] S8x512
  h_S_ : 0 < S_.numel
  bcast_S8x512_S8x512x1_0_1 : S8x512.BroadcastsInDim S8x512x1 (![0, 1] : Fin 2 → Fin S8x512x1.rank)
  bcast_S8x512_S8x1x512_0_2 : S8x512.BroadcastsInDim S8x1x512 (![0, 2] : Fin 2 → Fin S8x1x512.rank)
  bcast_S8x512x1_S8x512x512_0_1_2 : S8x512x1.BroadcastsInDim S8x512x512 (![0, 1, 2] : Fin 3 → Fin S8x512x512.rank)
  bcast_S8x1x512_S8x512x512_0_1_2 : S8x1x512.BroadcastsInDim S8x512x512 (![0, 1, 2] : Fin 3 → Fin S8x512x512.rank)
  bcast_S_S8x512x512 : S_.BroadcastsInDim S8x512x512 (![] : Fin 0 → Fin S8x512x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S_S1x512x512 : S_.BroadcastsInDim S1x512x512 (![] : Fin 0 → Fin S1x512x512.rank)
  bcast_S1x512x512_S8x512x512_0_1_2 : S1x512x512.BroadcastsInDim S8x512x512 (![0, 1, 2] : Fin 3 → Fin S8x512x512.rank)
  sliceFits_S8x512x512_S8x512x4 : S8x512x512.Slices (fun _ => 0) S8x512x4
  slices_S8x512x4_S8x512x3_0_0_1 : S8x512x4.Slices ![0, 0, 1] S8x512x3
  slices_S8x512x4_S8x512x3_0_0_0 : S8x512x4.Slices ![0, 0, 0] S8x512x3
  shapeCasts_S8x512x3_S12288 : S8x512x3.ShapeCasts S12288
  bcast_S_S8x512x256 : S_.BroadcastsInDim S8x512x256 (![] : Fin 0 → Fin S8x512x256.rank)
  shapeCasts_S8x512x256_S1048576 : S8x512x256.ShapeCasts S1048576
  bcast_S_S772 : S_.BroadcastsInDim S772 (![] : Fin 0 → Fin S772.rank)
  bcast_S_S772x256 : S_.BroadcastsInDim S772x256 (![] : Fin 0 → Fin S772x256.rank)
  shapeCasts_S772x256_S197632 : S772x256.ShapeCasts S197632
  concatenates_S12288_S1048576_S772_S197632_S1259268_d0 : Shape.Concatenates [S12288, S1048576, S772, S197632] S1259268 0
  dot_S8x512x256_S8x512x256_S8x512x512_2_2_1_1_0_0_wf : DotDims.WF S8x512x256 S8x512x256 S8x512x512 [2] [2] [1] [1] [0] [0]

variable [Facts]

def dot_S8x512x256_S8x512x256_S8x512x512_2_2_1_1_0_0 : DotDims S8x512x256 S8x512x256 S8x512x512 where
  lhsContracting := [2]
  rhsContracting := [2]
  lhsNonContracting := [1]
  rhsNonContracting := [1]
  lhsBatch := [0]
  rhsBatch := [0]
  wf := dot_S8x512x256_S8x512x256_S8x512x512_2_2_1_1_0_0_wf
def fn_part2 {F : FTy → Type} [FloatOps F] (main_arg3 : FVec F S772x256 .f32) (main_v31 : IVec S12288 1) (main_v35 : IVec S1048576 1) (main_v36 : FVec F S772 .f32) (main_v37 : FVec F S772 .f32) : IVec S1259268 1 :=
  let main_v38 : IVec S772 1 := cmpf .olt main_v36 main_v37
  let main_v39 : FVec F S772x256 .f32 := Host.absf main_arg3
  let main_cst_6 : FVec F S_ .f32 := constant S_ .f32 0x7F800000#32
  let main_v40 : FVec F S772x256 .f32 := broadcastInDim S772x256 ![] bcast_S_S772x256 main_cst_6
  let main_v41 : IVec S772x256 1 := cmpf .olt main_v39 main_v40
  let main_v42 : IVec S197632 1 := shapeCast S197632 main_v41 shapeCasts_S772x256_S197632
  let main_v43 : IVec S1259268 1 := concatenate S1259268 0 [⟨S12288, main_v31⟩, ⟨S1048576, main_v35⟩, ⟨S772, main_v38⟩, ⟨S197632, main_v42⟩] concatenates_S12288_S1048576_S772_S197632_S1259268_d0
  main_v43

def fn_part1 {F : FTy → Type} [FloatOps F] (main_arg0 : FVec F S8x512x256 .f32) (main_arg1 : FVec F S772 .f32) (main_arg3 : FVec F S772x256 .f32) (main_v15 : FVec F S8x512x512 .f32) (main_v16 : IVec S512x512 32) (main_v17 : IVec S512x512 32) (main_v18 : IVec S512x512 32) : IVec S1259268 1 :=
  let main_v19 : IVec S512x512 32 := addi main_v16 main_v18
  let main_v20 : IVec S512x512 1 := cmpi .eq main_v19 main_v17
  let main_v21 : FVec F S512x512 .f32 := uitofp .f32 main_v20
  let main_v22 : FVec F S1x512x512 .f32 := broadcastInDim S1x512x512 ![1, 2] bcast_S512x512_S1x512x512_1_2 main_v21
  let main_cst_3 : FVec F S_ .f32 := constant S_ .f32 0x4E6E6B28#32
  let main_v23 : FVec F S1x512x512 .f32 := broadcastInDim S1x512x512 ![] bcast_S_S1x512x512 main_cst_3
  let main_v24 : FVec F S1x512x512 .f32 := mulf main_v22 main_v23
  let main_v25 : FVec F S8x512x512 .f32 := broadcastInDim S8x512x512 ![0, 1, 2] bcast_S1x512x512_S8x512x512_0_1_2 main_v24
  let main_v26 : FVec F S8x512x512 .f32 := addf main_v15 main_v25
  let main_v27 : FVec F S8x512x512 .f32 := Host.negf main_v26
  let main_values : FVec F S8x512x4 .f32 := (fun x => (Host.topK S8x512x4 2 (FloatOps.cmpfTotal .gt) x sliceFits_S8x512x512_S8x512x4).1) main_v27
  let main_indices : IVec S8x512x4 32 := (fun x => (Host.topK S8x512x4 2 (FloatOps.cmpfTotal .gt) x sliceFits_S8x512x512_S8x512x4).2) main_v27
  let main_v28 : FVec F S8x512x3 .f32 := (extractStridedSlice S8x512x3 ![0, 0, 1] · slices_S8x512x4_S8x512x3_0_0_1) main_values
  let main_v29 : FVec F S8x512x3 .f32 := (extractStridedSlice S8x512x3 ![0, 0, 0] · slices_S8x512x4_S8x512x3_0_0_0) main_values
  let main_v30 : IVec S8x512x3 1 := cmpf .olt main_v28 main_v29
  let main_v31 : IVec S12288 1 := shapeCast S12288 main_v30 shapeCasts_S8x512x3_S12288
  let main_v32 : FVec F S8x512x256 .f32 := Host.absf main_arg0
  let main_cst_4 : FVec F S_ .f32 := constant S_ .f32 0x4B189680#32
  let main_v33 : FVec F S8x512x256 .f32 := broadcastInDim S8x512x256 ![] bcast_S_S8x512x256 main_cst_4
  let main_v34 : IVec S8x512x256 1 := cmpf .ole main_v32 main_v33
  let main_v35 : IVec S1048576 1 := shapeCast S1048576 main_v34 shapeCasts_S8x512x256_S1048576
  let main_v36 : FVec F S772 .f32 := Host.absf main_arg1
  let main_cst_5 : FVec F S_ .f32 := constant S_ .f32 0x7F800000#32
  let main_v37 : FVec F S772 .f32 := broadcastInDim S772 ![] bcast_S_S772 main_cst_5
  fn_part2 (F := F) main_arg3 main_v31 main_v35 main_v36 main_v37

def fn {F : FTy → Type} [FloatOps F] (main_arg0 : FVec F S8x512x256 .f32) (main_arg1 : FVec F S772 .f32) (main_arg2 : FVec F S772 .f32) (main_arg3 : FVec F S772x256 .f32) (main_arg4 : FVec F S256 .f32) (main_arg5 : FVec F S256x256 .f32) (main_arg6 : FVec F S256 .f32) : IVec S1259268 1 :=
  let main_v0 : FVec F S8x512x256 .f32 := mulf main_arg0 main_arg0
  let main_cst : FVec F S_ .f32 := constant S_ .f32 0x00000000#32
  let main_v1 : FVec F S8x512 .f32 := (fun x v => Host.reduceAdd x v reducesTo_S8x512x256_S8x512_d2 h_S_) main_v0 main_cst
  let main_v2 : FVec F S8x512x1 .f32 := broadcastInDim S8x512x1 ![0, 1] bcast_S8x512_S8x512x1_0_1 main_v1
  let main_v3 : FVec F S8x1x512 .f32 := broadcastInDim S8x1x512 ![0, 2] bcast_S8x512_S8x1x512_0_2 main_v1
  let main_v4 : FVec F S8x512x512 .f32 := broadcastInDim S8x512x512 ![0, 1, 2] bcast_S8x512x1_S8x512x512_0_1_2 main_v2
  let main_v5 : FVec F S8x512x512 .f32 := broadcastInDim S8x512x512 ![0, 1, 2] bcast_S8x1x512_S8x512x512_0_1_2 main_v3
  let main_v6 : FVec F S8x512x512 .f32 := addf main_v4 main_v5
  let main_v7 : FVec F S8x512x512 .f32 := (fun l r => Host.dotGeneral dot_S8x512x256_S8x512x256_S8x512x512_2_2_1_1_0_0 none l r) main_arg0 main_arg0
  let main_cst_0 : FVec F S_ .f32 := constant S_ .f32 0x40000000#32
  let main_v8 : FVec F S8x512x512 .f32 := broadcastInDim S8x512x512 ![] bcast_S_S8x512x512 main_cst_0
  let main_v9 : FVec F S8x512x512 .f32 := mulf main_v8 main_v7
  let main_v10 : FVec F S8x512x512 .f32 := subf main_v6 main_v9
  let main_cst_1 : FVec F S_ .f32 := constant S_ .f32 0x00000000#32
  let main_v11 : FVec F S8x512x512 .f32 := broadcastInDim S8x512x512 ![] bcast_S_S8x512x512 main_cst_1
  let main_v12 : FVec F S8x512x512 .f32 := maximumf main_v10 main_v11
  let main_cst_2 : FVec F S_ .f32 := constant S_ .f32 0x2B8CBCCC#32
  let main_v13 : FVec F S8x512x512 .f32 := broadcastInDim S8x512x512 ![] bcast_S_S8x512x512 main_cst_2
  let main_v14 : FVec F S8x512x512 .f32 := addf main_v12 main_v13
  let main_v15 : FVec F S8x512x512 .f32 := Host.sqrt main_v14
  let main_v16 : IVec S512x512 32 := iotaInDim S512x512 32 0
  let main_v17 : IVec S512x512 32 := iotaInDim S512x512 32 1
  let main_c : IVec S_ 32 := constantI S_ 32 0#32
  let main_v18 : IVec S512x512 32 := broadcastInDim S512x512 ![] bcast_S_S512x512 main_c
  fn_part1 (F := F) main_arg0 main_arg1 main_arg3 main_v15 main_v16 main_v17 main_v18
-- ==== Kernel.lean ====
abbrev S8x512x256 : Shape := ⟨3, ![8, 512, 256]⟩
abbrev S772 : Shape := ⟨1, ![772]⟩
abbrev S772x256 : Shape := ⟨2, ![772, 256]⟩
abbrev S256 : Shape := ⟨1, ![256]⟩
abbrev S256x256 : Shape := ⟨2, ![256, 256]⟩
abbrev S8x512x260 : Shape := ⟨3, ![8, 512, 260]⟩
abbrev S8x512x512 : Shape := ⟨3, ![8, 512, 512]⟩
abbrev S8x512 : Shape := ⟨2, ![8, 512]⟩
abbrev S1x512x256 : Shape := ⟨3, ![1, 512, 256]⟩
abbrev S1x512x260 : Shape := ⟨3, ![1, 512, 260]⟩
abbrev S1x512x512 : Shape := ⟨3, ![1, 512, 512]⟩
abbrev S2x256 : Shape := ⟨2, ![2, 256]⟩
abbrev S1x772 : Shape := ⟨2, ![1, 772]⟩
abbrev S1x256 : Shape := ⟨2, ![1, 256]⟩
abbrev S512x256 : Shape := ⟨2, ![512, 256]⟩
abbrev S512 : Shape := ⟨1, ![512]⟩
abbrev S512x1 : Shape := ⟨2, ![512, 1]⟩
abbrev S512x512 : Shape := ⟨2, ![512, 512]⟩
abbrev S1x512 : Shape := ⟨2, ![1, 512]⟩
abbrev S512x260 : Shape := ⟨2, ![512, 260]⟩
abbrev S1 : Shape := ⟨1, ![1]⟩
abbrev S1x1 : Shape := ⟨2, ![1, 1]⟩
abbrev S1x260 : Shape := ⟨2, ![1, 260]⟩
abbrev S260x256 : Shape := ⟨2, ![260, 256]⟩

abbrev nBuf : Space → Nat
  | .hbm => 11
  | .vmem => 16
  | .smem => 0
  | _ => 0

abbrev bufTy : (tb : Table) → Fin (tcTables nBuf tb) → BufTy
  | .hbm, ⟨0, _⟩ => ⟨S8x512x256, .f32⟩
  | .hbm, ⟨1, _⟩ => ⟨S772, .f32⟩
  | .hbm, ⟨2, _⟩ => ⟨S772, .f32⟩
  | .hbm, ⟨3, _⟩ => ⟨S772x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S8x512x256, .f32⟩
  | .hbm, ⟨8, _⟩ => ⟨S8x512x260, .f32⟩
  | .hbm, ⟨9, _⟩ => ⟨S8x512x512, .f32⟩
  | .hbm, ⟨10, _⟩ => ⟨S8x512, .f32⟩
  | .local _ .vmem, ⟨0, _⟩ => ⟨S1x512x256, .f32⟩
  | .local _ .vmem, ⟨1, _⟩ => ⟨S1x512x256, .f32⟩
  | .local _ .vmem, ⟨2, _⟩ => ⟨S772, .f32⟩
  | .local _ .vmem, ⟨3, _⟩ => ⟨S772, .f32⟩
  | .local _ .vmem, ⟨4, _⟩ => ⟨S772x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S1x512x256, .f32⟩
  | .local _ .vmem, ⟨9, _⟩ => ⟨S1x512x256, .f32⟩
  | .local _ .vmem, ⟨10, _⟩ => ⟨S1x512x260, .f32⟩
  | .local _ .vmem, ⟨11, _⟩ => ⟨S1x512x260, .f32⟩
  | .local _ .vmem, ⟨12, _⟩ => ⟨S1x512x512, .f32⟩
  | .local _ .vmem, ⟨13, _⟩ => ⟨S1x512x512, .f32⟩
  | .local _ .vmem, ⟨14, _⟩ => ⟨S8x512, .f32⟩
  | .local _ .vmem, ⟨15, _⟩ => ⟨S2x256, .f32⟩
  | _, _ => ⟨S8x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v93 : Index := Scalar.indexCast arg0
  let c0_30 : Index := 0#32
  ![v93.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S772 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S772 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S772x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x260 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "inv_in" => some ((1 / 772 : ℝ) : EReal)
  | _ => none
-- ==== ReferenceIdeal.lean ====
abbrev S8x512x256 : Shape := ⟨3, ![8, 512, 256]⟩
abbrev S772 : Shape := ⟨1, ![772]⟩
abbrev S772x256 : Shape := ⟨2, ![772, 256]⟩
abbrev S256 : Shape := ⟨1, ![256]⟩
abbrev S256x256 : Shape := ⟨2, ![256, 256]⟩
abbrev S_ : Shape := ⟨0, ![]⟩
abbrev S8x512 : Shape := ⟨2, ![8, 512]⟩
abbrev S8x512x1 : Shape := ⟨3, ![8, 512, 1]⟩
abbrev S8x1x512 : Shape := ⟨3, ![8, 1, 512]⟩
abbrev S8x512x512 : Shape := ⟨3, ![8, 512, 512]⟩
abbrev S512x512 : Shape := ⟨2, ![512, 512]⟩
abbrev S1x512x512 : Shape := ⟨3, ![1, 512, 512]⟩
abbrev S8x512x4 : Shape := ⟨3, ![8, 512, 4]⟩
abbrev S8x256 : Shape := ⟨2, ![8, 256]⟩
abbrev S8x1x256 : Shape := ⟨3, ![8, 1, 256]⟩
abbrev S8x512x259 : Shape := ⟨3, ![8, 512, 259]⟩
abbrev S8x512x260 : Shape := ⟨3, ![8, 512, 260]⟩
abbrev S8x512x772 : Shape := ⟨3, ![8, 512, 772]⟩
abbrev S1x1x772 : Shape := ⟨3, ![1, 1, 772]⟩
abbrev S1x1x256 : Shape := ⟨3, ![1, 1, 256]⟩

abbrev nBuf : Space → Nat
  | .hbm => 254
  | .vmem => 0
  | .smem => 0
  | _ => 0

abbrev hbmTy0_0 (i : Nat) : BufTy := match i % 128 with
  | 0 => ⟨S8x512x256, .f32⟩
  | 1 => ⟨S772, .f32⟩
  | 2 => ⟨S772, .f32⟩
  | 3 => ⟨S772x256, .f32⟩
  | 4 => ⟨S256, .f32⟩
  | 5 => ⟨S256x256, .f32⟩
  | 6 => ⟨S256, .f32⟩
  | 7 => ⟨S8x512x256, .f32⟩
  | 8 => ⟨S_, .f32⟩
  | 9 => ⟨S8x512, .f32⟩
  | 10 => ⟨S8x512x1, .f32⟩
  | 11 => ⟨S8x1x512, .f32⟩
  | 12 => ⟨S8x512x512, .f32⟩
  | 13 => ⟨S8x512x512, .f32⟩
  | 14 => ⟨S8x512x512, .f32⟩
  | 15 => ⟨S8x512x512, .f32⟩
  | 16 => ⟨S_, .f32⟩
  | 17 => ⟨S8x512x512, .f32⟩
  | 18 => ⟨S8x512x512, .f32⟩
  | 19 => ⟨S8x512x512, .f32⟩
  | 20 => ⟨S_, .f32⟩
  | 21 => ⟨S8x512x512, .f32⟩
  | 22 => ⟨S8x512x512, .f32⟩
  | 23 => ⟨S_, .f32⟩
  | 24 => ⟨S8x512x512, .f32⟩
  | 25 => ⟨S8x512x512, .f32⟩
  | 26 => ⟨S8x512x512, .f32⟩
  | 27 => ⟨S512x512, .i32⟩
  | 28 => ⟨S512x512, .i32⟩
  | 29 => ⟨S_, .i32⟩
  | 30 => ⟨S512x512, .i32⟩
  | 31 => ⟨S512x512, .i32⟩
  | 32 => ⟨S512x512, .i1⟩
  | 33 => ⟨S512x512, .f32⟩
  | 34 => ⟨S1x512x512, .f32⟩
  | 35 => ⟨S_, .f32⟩
  | 36 => ⟨S1x512x512, .f32⟩
  | 37 => ⟨S1x512x512, .f32⟩
  | 38 => ⟨S8x512x512, .f32⟩
  | 39 => ⟨S8x512x512, .f32⟩
  | 40 => ⟨S8x512x512, .f32⟩
  | 41 => ⟨S8x512x4, .f32⟩
  | 42 => ⟨S8x512x4, .i32⟩
  | 43 => ⟨S_, .f32⟩
  | 44 => ⟨S8x512, .f32⟩
  | 45 => ⟨S8x512x1, .f32⟩
  | 46 => ⟨S_, .f32⟩
  | 47 => ⟨S8x512x1, .f32⟩
  | 48 => ⟨S8x512x1, .f32⟩
  | 49 => ⟨S8x512x1, .f32⟩
  | 50 => ⟨S_, .f32⟩
  | 51 => ⟨S8x256, .f32⟩
  | 52 => ⟨S8x1x256, .f32⟩
  | 53 => ⟨S_, .f32⟩
  | 54 => ⟨S8x1x256, .f32⟩
  | 55 => ⟨S8x1x256, .f32⟩
  | 56 => ⟨S8x512x256, .f32⟩
  | 57 => ⟨S8x512x256, .f32⟩
  | 58 => ⟨S8x512x256, .f32⟩
  | 59 => ⟨S_, .f32⟩
  | 60 => ⟨S8x512, .f32⟩
  | 61 => ⟨S8x512x1, .f32⟩
  | 62 => ⟨S_, .f32⟩
  | 63 => ⟨S8x512x1, .f32⟩
  | 64 => ⟨S8x512x1, .f32⟩
  | 65 => ⟨S8x512x1, .f32⟩
  | 66 => ⟨S8x512x256, .f32⟩
  | 67 => ⟨S_, .f32⟩
  | 68 => ⟨S8x512, .f32⟩
  | 69 => ⟨S8x512x1, .f32⟩
  | 70 => ⟨S_, .f32⟩
  | 71 => ⟨S8x512x1, .f32⟩
  | 72 => ⟨S8x512x1, .f32⟩
  | 73 => ⟨S8x512x1, .f32⟩
  | 74 => ⟨S8x512x259, .f32⟩
  | 75 => ⟨S_, .f32⟩
  | 76 => ⟨S8x512x1, .f32⟩
  | 77 => ⟨S8x512x260, .f32⟩
  | 78 => ⟨S_, .f32⟩
  | 79 => ⟨S8x256, .f32⟩
  | 80 => ⟨S_, .f32⟩
  | 81 => ⟨S8x256, .f32⟩
  | 82 => ⟨S8x256, .f32⟩
  | 83 => ⟨S_, .i32⟩
  | 84 => ⟨S_, .f32⟩
  | 85 => ⟨S8x256, .f32⟩
  | 86 => ⟨S8x1x256, .f32⟩
  | 87 => ⟨S_, .f32⟩
  | 88 => ⟨S8x1x256, .f32⟩
  | 89 => ⟨S8x1x256, .f32⟩
  | 90 => ⟨S8x512x256, .f32⟩
  | 91 => ⟨S8x512x256, .f32⟩
  | 92 => ⟨S8x512x256, .f32⟩
  | 93 => ⟨S_, .f32⟩
  | 94 => ⟨S_, .f32⟩
  | 95 => ⟨S_, .f32⟩
  | 96 => ⟨S_, .f32⟩
  | 97 => ⟨S8x256, .f32⟩
  | 98 => ⟨S8x256, .f32⟩
  | 99 => ⟨S8x256, .f32⟩
  | 100 => ⟨S_, .f32⟩
  | 101 => ⟨S_, .i1⟩
  | 102 => ⟨S_, .f32⟩
  | 103 => ⟨S_, .f32⟩
  | 104 => ⟨S8x256, .f32⟩
  | 105 => ⟨S8x256, .f32⟩
  | 106 => ⟨S_, .f32⟩
  | 107 => ⟨S8x256, .f32⟩
  | 108 => ⟨S8x256, .f32⟩
  | 109 => ⟨S8x256, .f32⟩
  | 110 => ⟨S8x512, .f32⟩
  | 111 => ⟨S8x1x512, .f32⟩
  | 112 => ⟨S8x512x512, .f32⟩
  | 113 => ⟨S8x512x772, .f32⟩
  | 114 => ⟨S_, .f32⟩
  | 115 => ⟨S8x512, .f32⟩
  | 116 => ⟨S8x512x1, .f32⟩
  | 117 => ⟨S_, .f32⟩
  | 118 => ⟨S8x512x1, .f32⟩
  | 119 => ⟨S8x512x1, .f32⟩
  | 120 => ⟨S_, .i32⟩
  | 121 => ⟨S_, .f32⟩
  | 122 => ⟨S8x512, .f32⟩
  | 123 => ⟨S8x512x1, .f32⟩
  | 124 => ⟨S_, .f32⟩
  | 125 => ⟨S8x512x1, .f32⟩
  | 126 => ⟨S8x512x1, .f32⟩
  | 127 => ⟨S8x512x772, .f32⟩
  | _ => ⟨S8x512x256, .f32⟩

abbrev hbmTy0_1 (i : Nat) : BufTy := match i % 128 with
  | 0 => ⟨S8x512x772, .f32⟩
  | 1 => ⟨S8x512x772, .f32⟩
  | 2 => ⟨S_, .f32⟩
  | 3 => ⟨S_, .f32⟩
  | 4 => ⟨S_, .f32⟩
  | 5 => ⟨S_, .f32⟩
  | 6 => ⟨S8x512, .f32⟩
  | 7 => ⟨S8x512x1, .f32⟩
  | 8 => ⟨S8x512x1, .f32⟩
  | 9 => ⟨S8x512x1, .f32⟩
  | 10 => ⟨S_, .f32⟩
  | 11 => ⟨S_, .i1⟩
  | 12 => ⟨S_, .f32⟩
  | 13 => ⟨S_, .f32⟩
  | 14 => ⟨S8x512x1, .f32⟩
  | 15 => ⟨S8x512x1, .f32⟩
  | 16 => ⟨S8x512x772, .f32⟩
  | 17 => ⟨S8x512x772, .f32⟩
  | 18 => ⟨S_, .f32⟩
  | 19 => ⟨S8x512x1, .f32⟩
  | 20 => ⟨S8x512x1, .f32⟩
  | 21 => ⟨S8x512x1, .f32⟩
  | 22 => ⟨S8x512x772, .f32⟩
  | 23 => ⟨S8x512x772, .f32⟩
  | 24 => ⟨S1x1x772, .f32⟩
  | 25 => ⟨S8x512x772, .f32⟩
  | 26 => ⟨S8x512x772, .f32⟩
  | 27 => ⟨S1x1x772, .f32⟩
  | 28 => ⟨S8x512x772, .f32⟩
  | 29 => ⟨S8x512x772, .f32⟩
  | 30 => ⟨S8x512x256, .f32⟩
  | 31 => ⟨S1x1x256, .f32⟩
  | 32 => ⟨S8x512x256, .f32⟩
  | 33 => ⟨S8x512x256, .f32⟩
  | 34 => ⟨S_, .f32⟩
  | 35 => ⟨S8x512x256, .f32⟩
  | 36 => ⟨S8x512x256, .f32⟩
  | 37 => ⟨S8x512x256, .f32⟩
  | 38 => ⟨S_, .f32⟩
  | 39 => ⟨S8x512x256, .f32⟩
  | 40 => ⟨S8x512x256, .f32⟩
  | 41 => ⟨S8x512x256, .f32⟩
  | 42 => ⟨S8x512x256, .f32⟩
  | 43 => ⟨S8x512x256, .f32⟩
  | 44 => ⟨S1x1x256, .f32⟩
  | 45 => ⟨S8x512x256, .f32⟩
  | 46 => ⟨S8x512x256, .f32⟩
  | 47 => ⟨S8x512x256, .f32⟩
  | 48 => ⟨S_, .f32⟩
  | 49 => ⟨S8x512, .f32⟩
  | 50 => ⟨S8x512x1, .f32⟩
  | 51 => ⟨S8x1x512, .f32⟩
  | 52 => ⟨S8x512x512, .f32⟩
  | 53 => ⟨S8x512x512, .f32⟩
  | 54 => ⟨S8x512x512, .f32⟩
  | 55 => ⟨S8x512x512, .f32⟩
  | 56 => ⟨S_, .f32⟩
  | 57 => ⟨S8x512x512, .f32⟩
  | 58 => ⟨S8x512x512, .f32⟩
  | 59 => ⟨S8x512x512, .f32⟩
  | 60 => ⟨S_, .f32⟩
  | 61 => ⟨S8x512x512, .f32⟩
  | 62 => ⟨S8x512x512, .f32⟩
  | 63 => ⟨S_, .f32⟩
  | 64 => ⟨S8x512x512, .f32⟩
  | 65 => ⟨S8x512x512, .f32⟩
  | 66 => ⟨S8x512x512, .f32⟩
  | 67 => ⟨S512x512, .i32⟩
  | 68 => ⟨S512x512, .i32⟩
  | 69 => ⟨S_, .i32⟩
  | 70 => ⟨S512x512, .i32⟩
  | 71 => ⟨S512x512, .i32⟩
  | 72 => ⟨S512x512, .i1⟩
  | 73 => ⟨S512x512, .f32⟩
  | 74 => ⟨S1x512x512, .f32⟩
  | 75 => ⟨S_, .f32⟩
  | 76 => ⟨S1x512x512, .f32⟩
  | 77 => ⟨S1x512x512, .f32⟩
  | 78 => ⟨S8x512x512, .f32⟩
  | 79 => ⟨S8x512x512, .f32⟩
  | 80 => ⟨S8x512x512, .f32⟩
  | 81 => ⟨S8x512x4, .f32⟩
  | 82 => ⟨S8x512x4, .i32⟩
  | 83 => ⟨S_, .f32⟩
  | 84 => ⟨S8x512, .f32⟩
  | 85 => ⟨S8x512x1, .f32⟩
  | 86 => ⟨S_, .f32⟩
  | 87 => ⟨S8x512x1, .f32⟩
  | 88 => ⟨S8x512x1, .f32⟩
  | 89 => ⟨S8x512x1, .f32⟩
  | 90 => ⟨S_, .f32⟩
  | 91 => ⟨S8x256, .f32⟩
  | 92 => ⟨S8x1x256, .f32⟩
  | 93 => ⟨S_, .f32⟩
  | 94 => ⟨S8x1x256, .f32⟩
  | 95 => ⟨S8x1x256, .f32⟩
  | 96 => ⟨S8x512x256, .f32⟩
  | 97 => ⟨S8x512x256, .f32⟩
  | 98 => ⟨S8x512x256, .f32⟩
  | 99 => ⟨S_, .f32⟩
  | 100 => ⟨S8x512, .f32⟩
  | 101 => ⟨S8x512x1, .f32⟩
  | 102 => ⟨S_, .f32⟩
  | 103 => ⟨S8x512x1, .f32⟩
  | 104 => ⟨S8x512x1, .f32⟩
  | 105 => ⟨S8x512x1, .f32⟩
  | 106 => ⟨S8x512x256, .f32⟩
  | 107 => ⟨S_, .f32⟩
  | 108 => ⟨S8x512, .f32⟩
  | 109 => ⟨S8x512x1, .f32⟩
  | 110 => ⟨S_, .f32⟩
  | 111 => ⟨S8x512x1, .f32⟩
  | 112 => ⟨S8x512x1, .f32⟩
  | 113 => ⟨S8x512x1, .f32⟩
  | 114 => ⟨S8x512x259, .f32⟩
  | 115 => ⟨S8x512x259, .f32⟩
  | 116 => ⟨S_, .f32⟩
  | 117 => ⟨S8x512, .f32⟩
  | 118 => ⟨S8x512x1, .f32⟩
  | 119 => ⟨S8x512x1, .f32⟩
  | 120 => ⟨S_, .f32⟩
  | 121 => ⟨S8x512x1, .f32⟩
  | 122 => ⟨S8x512x1, .f32⟩
  | 123 => ⟨S8x512x259, .f32⟩
  | 124 => ⟨S8x512x259, .f32⟩
  | 125 => ⟨S8x512x512, .f32⟩
  | _ => ⟨S8x512x256, .f32⟩

abbrev hbmTy (i : Nat) : BufTy := match i / 128 with
  | 0 => hbmTy0_0 i
  | 1 => hbmTy0_1 i
  | _ => ⟨S8x512x256, .f32⟩

abbrev bufTy : (tb : Table) → Fin (tcTables nBuf tb) → BufTy
  | .hbm, ⟨i, _⟩ => hbmTy i
  | _, _ => ⟨S8x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_values : Ref sig .tc := ⟨.hbm, 41, rfl⟩
abbrev main_indices : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_v56 : Ref sig .tc := ⟨.hbm, 82, rfl⟩
abbrev main_c_15 : Ref sig .tc := ⟨.hbm, 83, rfl⟩
abbrev main_call0_cst : Ref sig .tc := ⟨.hbm, 84, rfl⟩
abbrev main_call0_v0 : Ref sig .tc := ⟨.hbm, 85, rfl⟩
abbrev main_call0_v1 : Ref sig .tc := ⟨.hbm, 86, rfl⟩
abbrev main_call0_cst_0 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_call0_v5 : Ref sig .tc := ⟨.hbm, 91, rfl⟩
abbrev main_call0_v6 : Ref sig .tc := ⟨.hbm, 92, rfl⟩
abbrev main_call0_v7 : Ref sig .tc := ⟨.hbm, 93, rfl⟩
abbrev main_call0_cst_1 : Ref sig .tc := ⟨.hbm, 94, rfl⟩
abbrev main_call0_v8 : Ref sig .tc := ⟨.hbm, 95, rfl⟩
abbrev main_call0_cst_2 : Ref sig .tc := ⟨.hbm, 96, rfl⟩
abbrev main_call0_v9 : Ref sig .tc := ⟨.hbm, 97, rfl⟩
abbrev main_call0_v10 : Ref sig .tc := ⟨.hbm, 98, rfl⟩
abbrev main_call0_v11 : Ref sig .tc := ⟨.hbm, 99, rfl⟩
abbrev main_call0_cst_3 : Ref sig .tc := ⟨.hbm, 100, rfl⟩
abbrev main_call0_v12 : Ref sig .tc := ⟨.hbm, 101, rfl⟩
abbrev main_call0_cst_4 : Ref sig .tc := ⟨.hbm, 102, rfl⟩
abbrev main_call0_call0_v0 : Ref sig .tc := ⟨.hbm, 103, rfl⟩
abbrev main_call0_call0_v1 : Ref sig .tc := ⟨.hbm, 104, rfl⟩
abbrev main_v57 : Ref sig .tc := ⟨.hbm, 105, rfl⟩
abbrev main_cst_16 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_cst_17 : Ref sig .tc := ⟨.hbm, 114, rfl⟩
abbrev main_v65 : Ref sig .tc := ⟨.hbm, 115, rfl⟩
abbrev main_v66 : Ref sig .tc := ⟨.hbm, 116, rfl⟩
abbrev main_cst_18 : Ref sig .tc := ⟨.hbm, 117, rfl⟩
abbrev main_v67 : Ref sig .tc := ⟨.hbm, 118, rfl⟩
abbrev main_v68 : Ref sig .tc := ⟨.hbm, 119, rfl⟩
abbrev main_c_19 : Ref sig .tc := ⟨.hbm, 120, rfl⟩
abbrev main_call1_cst : Ref sig .tc := ⟨.hbm, 121, rfl⟩
abbrev main_call1_v0 : Ref sig .tc := ⟨.hbm, 122, rfl⟩
abbrev main_call1_v1 : Ref sig .tc := ⟨.hbm, 123, rfl⟩
abbrev main_call1_cst_0 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_call1_v5 : Ref sig .tc := ⟨.hbm, 128, rfl⟩
abbrev main_call1_v6 : Ref sig .tc := ⟨.hbm, 129, rfl⟩
abbrev main_call1_v7 : Ref sig .tc := ⟨.hbm, 130, rfl⟩
abbrev main_call1_cst_1 : Ref sig .tc := ⟨.hbm, 131, rfl⟩
abbrev main_call1_v8 : Ref sig .tc := ⟨.hbm, 132, rfl⟩
abbrev main_call1_cst_2 : Ref sig .tc := ⟨.hbm, 133, rfl⟩
abbrev main_call1_v9 : Ref sig .tc := ⟨.hbm, 134, rfl⟩
abbrev main_call1_v10 : Ref sig .tc := ⟨.hbm, 135, rfl⟩
abbrev main_call1_v11 : Ref sig .tc := ⟨.hbm, 136, rfl⟩
abbrev main_call1_v12 : Ref sig .tc := ⟨.hbm, 137, rfl⟩
abbrev main_call1_cst_3 : Ref sig .tc := ⟨.hbm, 138, rfl⟩
abbrev main_call1_v13 : Ref sig .tc := ⟨.hbm, 139, rfl⟩
abbrev main_call1_cst_4 : Ref sig .tc := ⟨.hbm, 140, rfl⟩
abbrev main_call1_call0_v0 : Ref sig .tc := ⟨.hbm, 141, rfl⟩
abbrev main_call1_call0_v1 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_cst_20 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_cst_21 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_cst_22 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_cst_23 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_cst_24 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_cst_25 : Ref sig .tc := ⟨.hbm, 188, rfl⟩
abbrev main_v109 : Ref sig .tc := ⟨.hbm, 189, rfl⟩
abbrev main_v110 : Ref sig .tc := ⟨.hbm, 190, rfl⟩
abbrev main_cst_26 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_c_27 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_cst_28 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_values_29 : Ref sig .tc := ⟨.hbm, 209, rfl⟩
abbrev main_indices_30 : Ref sig .tc := ⟨.hbm, 210, rfl⟩
abbrev main_cst_31 : Ref sig .tc := ⟨.hbm, 211, rfl⟩
abbrev main_v126 : Ref sig .tc := ⟨.hbm, 212, rfl⟩
abbrev main_v127 : Ref sig .tc := ⟨.hbm, 213, rfl⟩
abbrev main_cst_32 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_cst_33 : Ref sig .tc := ⟨.hbm, 218, rfl⟩
abbrev main_v131 : Ref sig .tc := ⟨.hbm, 219, rfl⟩
abbrev main_v132 : Ref sig .tc := ⟨.hbm, 220, rfl⟩
abbrev main_cst_34 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_cst_35 : Ref sig .tc := ⟨.hbm, 227, rfl⟩
abbrev main_v138 : Ref sig .tc := ⟨.hbm, 228, rfl⟩
abbrev main_v139 : Ref sig .tc := ⟨.hbm, 229, rfl⟩
abbrev main_cst_36 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_cst_37 : Ref sig .tc := ⟨.hbm, 235, rfl⟩
abbrev main_v144 : Ref sig .tc := ⟨.hbm, 236, rfl⟩
abbrev main_v145 : Ref sig .tc := ⟨.hbm, 237, rfl⟩
abbrev main_cst_38 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_cst_39 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_cst_40 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩

abbrev nD : Nat := 1
abbrev τ : Topo := Topo.v7x

variable {F : FTy → Type} [FloatOps F]
-- ==== Proof.KI.Vals.lean ====
/- What one grid point of the kernel computes, as functions of the blocks that it reads: compositions of the
   payloads of the printed body, in the order in which the body's parts hand them on. -/
module

public import proofs.«01_k».proof.Proof.Gen.KernelIdeal.Skeleton

@[expose] public section

noncomputable section

namespace Cert.KI

open Cert.KernelIdeal Cert.KernelIdeal.Gen Idealize.ShloMosaic

variable {F : FTy → Type} [FloatOps F] [Named F]

/-- The mean distance to the four nearest tokens, of a block of tokens. -/
def knn (x : Vec F S1x512x256 .f32) : FVec F S512x1 .f32 :=
  k0_pay13 (k0_pay7 x) (k0_pay8 x) (k0_pay11 x) (k0_pay12 x)

/-- The mean token. -/
def mu (x : Vec F S1x512x256 .f32) : FVec F S1x256 .f32 := k0_pay14 (k0_pay4 x)

/-- Each token's distance to the mean token. -/
def cdist (x : Vec F S1x512x256 .f32) : FVec F S512x1 .f32 := k0_pay16 (k0_pay4 x)

/-- Each token's norm. -/
def nrm (x : Vec F S1x512x256 .f32) : FVec F S512x1 .f32 := k0_pay17 (k0_pay5 x)

/-- The sums of squared deviations from the mean token. -/
def dev2 (x : Vec F S1x512x256 .f32) : FVec F S1x256 .f32 := k0_pay18 (k0_pay4 x)

/-- The row of the context that a point writes. -/
def ctxRow (x : Vec F S1x512x256 .f32) : FVec F S1x512 .f32 := k0_pay19 (mu x) (dev2 x)

/-- The features of a block of tokens, -/
def sf (x : Vec F S1x512x256 .f32) : FVec F S512x260 .f32 := k0_pay20 (k0_pay4 x) (knn x) (cdist x) (nrm x)

/-- and as the block that a point writes. -/
def sfBlk (x : Vec F S1x512x256 .f32) : FVec F S1x512x260 .f32 := k0_pay21 (k0_pay4 x) (knn x) (cdist x) (nrm x)

/-- The block of the similarity that a point writes. -/
def simBlk (x : Vec F S1x512x256 .f32) : FVec F S1x512x512 .f32 :=
  k0_pay1 (k0_pay6 x) (knn x) (cdist x) (nrm x) (k0_pay27 (k0_pay5 x) (cdist x)) (k0_pay28 (knn x))

/-- The mean of a row of the layer normalisation, -/
def muH (x : Vec F S1x512x256 .f32) : FVec F S512x1 .f32 := k0_pay22 (k0_pay4 x) (knn x) (mu x) (cdist x) (nrm x) (dev2 x)

/-- and its reciprocal standard deviation. -/
def invSd (x : Vec F S1x512x256 .f32) : FVec F S512x1 .f32 := k0_pay23 (k0_pay4 x) (knn x) (mu x) (cdist x) (nrm x) (dev2 x)

/-- The block of the embedding that a point writes, the two rows `p`, `q` the prepared ones. -/
def uBlk (x : Vec F S1x512x256 .f32) (g : Vec F S772 .f32) (w1 : Vec F S772x256 .f32) (w2 : Vec F S256x256 .f32)
    (b2 : Vec F S256 .f32) (p q : Vec F S1x256 .f32) : FVec F S1x512x256 .f32 :=
  k0_pay26 (ctxRow x) (sf x) (muH x) (invSd x) (k0_pay24 g) (k0_pay25 g) w1 p q w2 b2

/-- Two rows, one above the other. -/
def twoRows (p q : Vec F S1x256 .f32) : Vec F S2x256 .f32 := fun y =>
  if (y 0).val = 0 then p (fun a => match a with | 0 => (0 : Fin 1) | 1 => y 1)
  else q (fun a => match a with | 0 => (0 : Fin 1) | 1 => y 1)

/-- The two prepared rows as the scratch buffer holds them. -/
def prep (g b : Vec F S772 .f32) (w1 : Vec F S772x256 .f32) (b1 : Vec F S256 .f32) : Vec F S2x256 .f32 :=
  twoRows (k0_pay2 w1 g) (k0_pay3 w1 b b1)

/-- Row `k` of the scratch buffer. -/
def rowOf (k : Fin 2) (d : Vec F S2x256 .f32) : Vec F S1x256 .f32 := fun y =>
  d (fun a => match a with | 0 => k | 1 => y 1)

/-- An index of a one-row shape by its column. -/
theorem row_eta (y : S1x256.Idx) : (fun a => match a with | 0 => (0 : Fin 1) | 1 => y 1 : S1x256.Idx) = y := by
  funext a
  match a with
  | 0 => exact Fin.ext (Nat.lt_one_iff.1 (y 0).isLt).symm
  | 1 => rfl

theorem rowOf_zero (p q : Vec F S1x256 .f32) : rowOf 0 (twoRows p q) = p := by
  funext y
  unfold rowOf twoRows
  exact (if_pos rfl).trans (congrArg p (row_eta y))

theorem rowOf_one (p q : Vec F S1x256 .f32) : rowOf 1 (twoRows p q) = q := by
  funext y
  unfold rowOf twoRows
  exact (if_neg Nat.one_ne_zero).trans (congrArg q (row_eta y))

/-- The context block with the row of point `i` set. -/
def setRow (i : grid0.Coords) (d : Vec F S8x512 .f32) (r : Vec F S1x512 .f32) : Vec F S8x512 .f32 := fun y =>
  if (y 0).val = (i 0).val then r (fun a => match a with | 0 => (0 : Fin 1) | 1 => y 1) else d y

end Cert.KI

end
-- ==== Proof.KI.Body.lean ====
/- The runs of the kernel's body on whole staging buffers, in its two cases: at the first grid point, where the
   prepared rows are stored, and at a later one, where they are found. -/
module

public import proofs.«01_k».proof.Proof.KI.Vals
public import proofs.«01_k».proof.Proof.Gen.KernelIdeal.Frame
public import Idealize.ShloMosaic.Lib.WritesUnit
public import Idealize.ShloMosaic.Lib.WordCmp
public import Idealize.ShloMosaic.Lib.VecWindow
public import Idealize.ShloMosaic.Lib.WholeRead

@[expose] public section

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The condition under which the body prepares the two rows. -/
abbrev AtStart (i : grid0.Coords) : Prop :=
  Scalar.cmpi .ne (Scalar.extui (Scalar.cmpi .eq (BitVec.ofNat 32 (i 0).val) 0#32)) 0#32 = 1#1

/-- It holds at the first point alone. -/
theorem atStart_iff : ∀ t : Fin cfg0.N, AtStart (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    simp only [AtStart, e0]
    word_cmp
   : ∀ t : Fin grid0.N, AtStart (grid0.coords t) ↔ t.val = 0)

/-- The row of the last result that a point stores. -/
theorem k0_off1_eq (i : grid0.Coords) : k0_off1 i = ![(i 0).val, 0] := by
  have h : (i 0).val < 8 := (i 0).isLt
  have e : (Scalar.indexCast (BitVec.ofNat 32 (i 0).val) : Index).toNat = (i 0).val := by
    simp only [Scalar.indexCast]
    first | omega | (simp; omega)
  simp only [k0_off1, e]

theorem rowAt_emb (k : Fin 2) (inb : ∀ a, (![k.val, 0] : Fin 2 → ℕ) a + S1x256.size a ≤ S2x256.size a) (y : S1x256.Idx) :
    (Rect.unit (s := S2x256) ![k.val, 0] S1x256.size inb).toLoadRect.idx y
      = (fun a => match a with | 0 => k | 1 => y 1 : S2x256.Idx) := by
  funext a
  match a with
  | 0 =>
    have h : (y 0).val = 0 := Nat.lt_one_iff.1 (y 0).isLt
    exact Fin.ext (by show k.val + 1 * (y 0).val = k.val; omega)
  | 1 => exact Fin.ext (by show 0 + 1 * (y 1).val = (y 1).val; omega)

/-- A buffer of two rows after both were stored. -/
theorem read_rows (v : View sig .tc .vmem S2x256 .f32) (f : v.ty.Contents (Elt F)) (p q : Vec F S1x256 .f32) (y : S2x256.Idx) :
    v.read (Elt F) (v.writes (Elt F) f
        [⟨Rect.unit (s := S2x256) ![1, 0] S1x256.size inb_S2x256_S1x256_1_0, q⟩,
         ⟨Rect.unit (s := S2x256) ![0, 0] S1x256.size inb_S2x256_S1x256_0_0, p⟩]) y
      = twoRows p q y := by
  unfold twoRows
  have hy : (y 0).val < 2 := (y 0).isLt
  refine (View.read_writes_cons_rows (d := ![2, 256]) (size := ![1, 256]) (o := 1) (W := 1) v f _ _ _ y rfl rfl rfl).trans ?_
  by_cases h : (y 0).val = 0
  · rw [dif_neg (by omega), if_pos h]
    refine (View.read_writes_cons_rows (d := ![2, 256]) (size := ![1, 256]) (o := 0) (W := 1) v f _ _ _ y rfl rfl rfl).trans ?_
    rw [dif_pos (by omega)]
    refine congrArg p (funext fun a => ?_)
    match a with
    | 0 => exact Fin.ext (show (y 0).val - 0 = 0 by omega)
    | 1 => exact Fin.ext (Nat.sub_zero _)
  · rw [dif_pos (by omega), if_neg h]
    refine congrArg q (funext fun a => ?_)
    match a with
    | 0 => exact Fin.ext (show (y 0).val - 1 = 0 by omega)
    | 1 => exact Fin.ext (Nat.sub_zero _)

section

variable (c : Dev nD) (i : grid0.Coords)
  (arg1 : Memref sig .tc .vmem S1x512x256 .f32) (harg1 : arg1.IsWhole) (arg2 : Memref sig .tc .vmem S772 .f32) (harg2 : arg2.IsWhole)
  (arg3 : Memref sig .tc .vmem S772 .f32) (harg3 : arg3.IsWhole) (arg4 : Memref sig .tc .vmem S772x256 .f32) (harg4 : arg4.IsWhole)
  (arg5 : Memref sig .tc .vmem S256 .f32) (harg5 : arg5.IsWhole) (arg6 : Memref sig .tc .vmem S256x256 .f32) (harg6 : arg6.IsWhole)
  (arg7 : Memref sig .tc .vmem S256 .f32) (harg7 : arg7.IsWhole) (arg8 : Memref sig .tc .vmem S1x512x256 .f32) (harg8 : arg8.IsWhole)
  (arg9 : Memref sig .tc .vmem S1x512x260 .f32) (harg9 : arg9.IsWhole) (arg10 : Memref sig .tc .vmem S1x512x512 .f32) (harg10 : arg10.IsWhole)
  (arg11 : Memref sig .tc .vmem S8x512 .f32) (harg11 : arg11.IsWhole) (arg12 : Memref sig .tc .vmem S2x256 .f32) (harg12 : arg12.IsWhole)
  (x0 : Vec F S1x512x256 .f32) (x1 x2 : Vec F S772 .f32) (x3 : Vec F S772x256 .f32) (x4 : Vec F S256 .f32)
  (x5 : Vec F S256x256 .f32) (x6 : Vec F S256 .f32) (d10 : Vec F S8x512 .f32)

/-- The seven input buffers at their contents. -/
def ins : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5
    ∗ owns (c : Thread nD τ) arg7 fullShare x6)

set_option maxHeartbeats 2000000 in
include harg1 harg2 harg3 harg4 harg5 harg6 harg7 in
/-- The body's run at a later point, the scratch buffer at `xs`. -/
theorem body_later (hc : ¬AtStart i) (xs : Vec F S2x256 .f32) (E : Set ℕ) (K : PUnit → sProp 𝕄) :
    iprop(ins c arg1 arg2 arg3 arg4 arg5 arg6 arg7 x0 x1 x2 x3 x4 x5 x6
        ∗ (∃ d, owns (c : Thread nD τ) arg8 fullShare d) ∗ (∃ d, owns (c : Thread nD τ) arg9 fullShare d)
        ∗ (∃ d, owns (c : Thread nD τ) arg10 fullShare d) ∗ owns (c : Thread nD τ) arg11 fullShare d10
        ∗ owns (c : Thread nD τ) arg12 fullShare xs
        ∗ (iprop(ins c arg1 arg2 arg3 arg4 arg5 arg6 arg7 x0 x1 x2 x3 x4 x5 x6
            ∗ owns (c : Thread nD τ) arg8 fullShare (uBlk x0 x1 x3 x5 x6
                (rowOf 0 xs) (rowOf 1 xs))
            ∗ owns (c : Thread nD τ) arg9 fullShare (sfBlk x0) ∗ owns (c : Thread nD τ) arg10 fullShare (simBlk x0)
            ∗ owns (c : Thread nD τ) arg11 fullShare (setRow i d10 (ctxRow x0)) ∗ owns (c : Thread nD τ) arg12 fullShare xs) -∗ K ⟨⟩))
      ⊢ wp frame (wpE (defs₀ (F := F)) Variants.none c none) E
        (cc0__encoder_kernel i arg1 harg1 arg2 harg2 arg3 harg3 arg4 harg4 arg5 harg5 arg6 harg6 arg7 harg7 arg8 harg8 arg9 harg9 arg10 harg10 arg11 harg11 arg12 harg12) K := by
  simp only [cc0__encoder_kernel_eq_skeleton]; unfold cc0__encoder_kernel_skel
  simp only [k0_part1_eq_skeleton, k0_part2_eq_skeleton, k0_part3_eq_skeleton, k0_part4_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, ⟨%d9, %f9, -, H9⟩, ⟨%f10, %hf10, H10⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hf10; obtain rfl := harg12.eq_unread hfs0
  have e0 : View.readAt (Elt F) arg1.view (Rect.unit ![0, 0, 0] S1x512x256.size inb_S1x512x256_S1x512x256_0_0_0).toLoadRect (harg1.unread x0) = x0 :=
    (View.readAt_full _ _ _).trans (harg1.read_unread _)
  have e1 : View.readAt (Elt F) arg2.view (Rect.unit ![0] S772.size inb_S772_S772_0).toLoadRect (harg2.unread x1) = x1 :=
    (View.readAt_full _ _ _).trans (harg2.read_unread _)
  have e3 : View.readAt (Elt F) arg4.view (Rect.unit ![0, 0] S772x256.size inb_S772x256_S772x256_0_0).toLoadRect (harg4.unread x3) = x3 :=
    (View.readAt_full _ _ _).trans (harg4.read_unread _)
  have e5 : View.readAt (Elt F) arg6.view (Rect.unit ![0, 0] S256x256.size inb_S256x256_S256x256_0_0).toLoadRect (harg6.unread x5) = x5 :=
    (View.readAt_full _ _ _).trans (harg6.read_unread _)
  have e6 : View.readAt (Elt F) arg7.view (Rect.unit ![0] S256.size inb_S256_S256_0).toLoadRect (harg7.unread x6) = x6 :=
    (View.readAt_full _ _ _).trans (harg7.read_unread _)
  have er0 : View.readAt (Elt F) arg12.view (Rect.unit (s := S2x256) ![0, 0] S1x256.size inb_S2x256_S1x256_0_0).toLoadRect (harg12.unread xs) = rowOf 0 xs :=
    funext fun y => (harg12.readAt_unread _ _ _).trans (congrArg xs (rowAt_emb 0 _ y))
  have er1 : View.readAt (Elt F) arg12.view (Rect.unit (s := S2x256) ![1, 0] S1x256.size inb_S2x256_S1x256_1_0).toLoadRect (harg12.unread xs) = rowOf 1 xs :=
    funext fun y => (harg12.readAt_unread _ _ _).trans (congrArg xs (rowAt_emb 1 _ y))
  sl_exec (disch := first | sl_exact hc)
  sl_step
  iapply Hk
  isplitl [H0 H1 H2 H3 H4 H5 H6]
  · isplitl [H0]; · iexists _; isplitr; · ipureintro; exact harg1.read_unread _
                    iexact H0
    isplitl [H1]; · iexists _; isplitr; · ipureintro; exact harg2.read_unread _
                    iexact H1
    isplitl [H2]; · iexists _; isplitr; · ipureintro; exact harg3.read_unread _
                    iexact H2
    isplitl [H3]; · iexists _; isplitr; · ipureintro; exact harg4.read_unread _
                    iexact H3
    isplitl [H4]; · iexists _; isplitr; · ipureintro; exact harg5.read_unread _
                    iexact H4
    isplitl [H5]; · iexists _; isplitr; · ipureintro; exact harg6.read_unread _
                    iexact H5
    iexists _; isplitr; · ipureintro; exact harg7.read_unread _
    iexact H6
  isplitl [H7]
  · iexists _; isplitr
    swap; · iexact H7
    ipureintro
    rw [View.read_writes_full]
    rfl
  isplitl [H8]
  · iexists _; isplitr
    swap; · iexact H8
    ipureintro
    rw [View.read_writes_full]
    rfl
  isplitl [H9]
  · iexists _; isplitr
    swap; · iexact H9
    ipureintro
    rw [View.read_writes_full]
    rfl
  isplitl [H10]
  · iexists _; isplitr
    swap; · iexact H10
    ipureintro
    funext y
    refine (View.read_writes_cons_rows (d := ![8, 512]) (size := ![1, 512]) _ _ _ _ _ y (k0_off1_eq i) rfl rfl).trans ?_
    by_cases h : (y 0).val = (i 0).val
    · rw [dif_pos ⟨h.ge, h.trans_lt (Nat.lt_succ_self _)⟩, setRow, if_pos h]
      refine congrArg (ctxRow x0) (funext fun a => ?_)
      match a with
      | 0 => exact Fin.ext (show (y 0).val - (i 0).val = 0 by omega)
      | 1 => exact Fin.ext (Nat.sub_zero _)
    · rw [dif_neg fun h' => h (Nat.le_antisymm (Nat.lt_succ_iff.1 h'.2) h'.1), setRow, if_neg h]
      exact congrFun (harg11.read_unread d10) y
  iexists _; isplitr; · ipureintro; exact harg12.read_unread _
  iexact HS0

set_option maxHeartbeats 2000000 in
include harg1 harg2 harg3 harg4 harg5 harg6 harg7 in
/-- The body's run at the first point. -/
theorem body_first (hc : AtStart i) (E : Set ℕ) (K : PUnit → sProp 𝕄) :
    iprop(ins c arg1 arg2 arg3 arg4 arg5 arg6 arg7 x0 x1 x2 x3 x4 x5 x6
        ∗ (∃ d, owns (c : Thread nD τ) arg8 fullShare d) ∗ (∃ d, owns (c : Thread nD τ) arg9 fullShare d)
        ∗ (∃ d, owns (c : Thread nD τ) arg10 fullShare d) ∗ owns (c : Thread nD τ) arg11 fullShare d10
        ∗ (∃ d, owns (c : Thread nD τ) arg12 fullShare d)
        ∗ (iprop(ins c arg1 arg2 arg3 arg4 arg5 arg6 arg7 x0 x1 x2 x3 x4 x5 x6
            ∗ owns (c : Thread nD τ) arg8 fullShare (uBlk x0 x1 x3 x5 x6
                (k0_pay2 x3 x1) (k0_pay3 x3 x2 x4))
            ∗ owns (c : Thread nD τ) arg9 fullShare (sfBlk x0) ∗ owns (c : Thread nD τ) arg10 fullShare (simBlk x0)
            ∗ owns (c : Thread nD τ) arg11 fullShare (setRow i d10 (ctxRow x0)) ∗ owns (c : Thread nD τ) arg12 fullShare (prep x1 x2 x3 x4)) -∗ K ⟨⟩))
      ⊢ wp frame (wpE (defs₀ (F := F)) Variants.none c none) E
        (cc0__encoder_kernel i arg1 harg1 arg2 harg2 arg3 harg3 arg4 harg4 arg5 harg5 arg6 harg6 arg7 harg7 arg8 harg8 arg9 harg9 arg10 harg10 arg11 harg11 arg12 harg12) K := by
  simp only [cc0__encoder_kernel_eq_skeleton]; unfold cc0__encoder_kernel_skel
  simp only [k0_part1_eq_skeleton, k0_part2_eq_skeleton, k0_part3_eq_skeleton, k0_part4_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, ⟨%d9, %f9, -, H9⟩, ⟨%f10, %hf10, H10⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hf10
  have e0 : View.readAt (Elt F) arg1.view (Rect.unit ![0, 0, 0] S1x512x256.size inb_S1x512x256_S1x512x256_0_0_0).toLoadRect (harg1.unread x0) = x0 :=
    (View.readAt_full _ _ _).trans (harg1.read_unread _)
  have e1 : View.readAt (Elt F) arg2.view (Rect.unit ![0] S772.size inb_S772_S772_0).toLoadRect (harg2.unread x1) = x1 :=
    (View.readAt_full _ _ _).trans (harg2.read_unread _)
  have e3 : View.readAt (Elt F) arg4.view (Rect.unit ![0, 0] S772x256.size inb_S772x256_S772x256_0_0).toLoadRect (harg4.unread x3) = x3 :=
    (View.readAt_full _ _ _).trans (harg4.read_unread _)
  have e5 : View.readAt (Elt F) arg6.view (Rect.unit ![0, 0] S256x256.size inb_S256x256_S256x256_0_0).toLoadRect (harg6.unread x5) = x5 :=
    (View.readAt_full _ _ _).trans (harg6.read_unread _)
  have e6 : View.readAt (Elt F) arg7.view (Rect.unit ![0] S256.size inb_S256_S256_0).toLoadRect (harg7.unread x6) = x6 :=
    (View.readAt_full _ _ _).trans (harg7.read_unread _)
  have e2 : View.readAt (Elt F) arg3.view (Rect.unit ![0] S772.size inb_S772_S772_0).toLoadRect (harg3.unread x2) = x2 :=
    (View.readAt_full _ _ _).trans (harg3.read_unread _)
  have e4 : View.readAt (Elt F) arg5.view (Rect.unit ![0] S256.size inb_S256_S256_0).toLoadRect (harg5.unread x4) = x4 :=
    (View.readAt_full _ _ _).trans (harg5.read_unread _)
  sl_exec (disch := first | sl_exact hc)
  sl_step
  iapply Hk
  isplitl [H0 H1 H2 H3 H4 H5 H6]
  · isplitl [H0]; · iexists _; isplitr; · ipureintro; exact harg1.read_unread _
                    iexact H0
    isplitl [H1]; · iexists _; isplitr; · ipureintro; exact harg2.read_unread _
                    iexact H1
    isplitl [H2]; · iexists _; isplitr; · ipureintro; exact harg3.read_unread _
                    iexact H2
    isplitl [H3]; · iexists _; isplitr; · ipureintro; exact harg4.read_unread _
                    iexact H3
    isplitl [H4]; · iexists _; isplitr; · ipureintro; exact harg5.read_unread _
                    iexact H4
    isplitl [H5]; · iexists _; isplitr; · ipureintro; exact harg6.read_unread _
                    iexact H5
    iexists _; isplitr; · ipureintro; exact harg7.read_unread _
    iexact H6
  isplitl [H7]
  · iexists _; isplitr
    swap; · iexact H7
    ipureintro
    rw [View.read_writes_full]
    have h0 : body_first.sl.v137 c arg12 x1 x2 x3 x4 = k0_pay2 x3 x1 := funext fun y => by
      refine (read_rows arg12.view _ (k0_pay2 x3 x1) (k0_pay3 x3 x2 x4) _).trans ?_
      exact (congrArg _ (rowAt_emb 0 inb_S2x256_S1x256_0_0 y)).trans (congrFun (rowOf_zero _ _) y)
    have h1 : body_first.sl.v138 c arg12 x1 x2 x3 x4 = k0_pay3 x3 x2 x4 := funext fun y => by
      refine (read_rows arg12.view _ (k0_pay2 x3 x1) (k0_pay3 x3 x2 x4) _).trans ?_
      exact (congrArg _ (rowAt_emb 1 inb_S2x256_S1x256_1_0 y)).trans (congrFun (rowOf_one _ _) y)
    rw [h0, h1]
    rfl
  isplitl [H8]
  · iexists _; isplitr
    swap; · iexact H8
    ipureintro
    rw [View.read_writes_full]
    rfl
  isplitl [H9]
  · iexists _; isplitr
    swap; · iexact H9
    ipureintro
    rw [View.read_writes_full]
    rfl
  isplitl [H10]
  · iexists _; isplitr
    swap; · iexact H10
    ipureintro
    funext y
    refine (View.read_writes_cons_rows (d := ![8, 512]) (size := ![1, 512]) _ _ _ _ _ y (k0_off1_eq i) rfl rfl).trans ?_
    by_cases h : (y 0).val = (i 0).val
    · rw [dif_pos ⟨h.ge, h.trans_lt (Nat.lt_succ_self _)⟩, setRow, if_pos h]
      refine congrArg (ctxRow x0) (funext fun a => ?_)
      match a with
      | 0 => exact Fin.ext (show (y 0).val - (i 0).val = 0 by omega)
      | 1 => exact Fin.ext (Nat.sub_zero _)
    · rw [dif_neg fun h' => h (Nat.le_antisymm (Nat.lt_succ_iff.1 h'.2) h'.1), setRow, if_neg h]
      exact congrFun (harg11.read_unread d10) y
  iexists _; isplitr
  swap; · iexact HS0
  ipureintro
  funext y
  exact read_rows arg12.view fs0 _ _ y

end

end Cert.KI

end
-- ==== Proof.KI.Run.lean ====
/- The kernel's proof data and its run: what each window's buffer holds point by point. The window of the last result
   holds one row more after each point, the other rows being whatever they were: it is held to a relation, the other
   windows to exact contents. -/
module

public import proofs.«01_k».proof.Proof.KI.Body
public import Idealize.ShloMosaic.Lib.Pipeline.FrameBody
public import Idealize.ShloMosaic.Lib.Pipeline.DatRel
public import Idealize.ShloMosaic.Lib.Claim

@[expose] public section

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The arguments, as the blocks that a point sees -/

def arg0 (c : Dev nD) : Vec F S8x512x256 .f32 := V m c main_arg0
def arg1 (c : Dev nD) : Vec F S772 .f32 := V m c main_arg1
def arg2 (c : Dev nD) : Vec F S772 .f32 := V m c main_arg2
def arg3 (c : Dev nD) : Vec F S772x256 .f32 := V m c main_arg3
def arg4 (c : Dev nD) : Vec F S256 .f32 := V m c main_arg4
def arg5 (c : Dev nD) : Vec F S256x256 .f32 := V m c main_arg5
def arg6 (c : Dev nD) : Vec F S256 .f32 := V m c main_arg6

/-- Batch `b` of the tokens. -/
def xblk (x : Vec F S8x512x256 .f32) (b : Fin 8) : Vec F S1x512x256 .f32 := fun y =>
  x (fun a => match a with | 0 => b | 1 => y 1 | 2 => y 2)

/-- The batch of a grid point. -/
def bat (t : Fin cfg0.N) : Fin 8 := ⟨t.val, Nat.lt_of_lt_of_eq t.isLt N_0⟩

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 1) = 0 := (by decide +kernel : ∀ t : Fin grid0.N, _)
theorem idx2 : ∀ t : Fin cfg0.N, win0_2.index t (0 : Fin 1) = 0 := (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 := (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 := (by decide +kernel : ∀ t : Fin grid0.N, _)

theorem iblk0 (c : Dev nD) (t : Fin cfg0.N) : iblk m c 0 t = xblk (arg0 m c) (bat t) := by
  obtain ⟨e0, e1, e2⟩ := idx0 t
  funext y
  have hy0 : (y 0).val < 1 := (y 0).isLt
  refine congrArg (arg0 m c) (funext fun a => ?_)
  match a with
  | 0 => exact Fin.ext (by show win0_0.index t (0 : Fin 3) * 1 + 1 * (y 0).val = t.val; omega)
  | 1 => exact Fin.ext (by show win0_0.index t (1 : Fin 3) * 512 + 1 * (y 1).val = (y 1).val; omega)
  | 2 => exact Fin.ext (by show win0_0.index t (2 : Fin 3) * 256 + 1 * (y 2).val = (y 2).val; omega)

theorem iblk1 (c : Dev nD) (t : Fin cfg0.N) : iblk m c 1 t = arg1 m c := by
  have e0 := idx1 t
  funext y
  refine congrArg (arg1 m c) (funext fun a => ?_)
  match a with
  | 0 => exact Fin.ext (by show win0_1.index t (0 : Fin 1) * 772 + 1 * (y 0).val = (y 0).val; omega)

theorem iblk2 (c : Dev nD) (t : Fin cfg0.N) : iblk m c 2 t = arg2 m c := by
  have e0 := idx2 t
  funext y
  refine congrArg (arg2 m c) (funext fun a => ?_)
  match a with
  | 0 => exact Fin.ext (by show win0_2.index t (0 : Fin 1) * 772 + 1 * (y 0).val = (y 0).val; omega)

theorem iblk4 (c : Dev nD) (t : Fin cfg0.N) : iblk m c 4 t = arg4 m c := by
  have e0 := idx4 t
  funext y
  refine congrArg (arg4 m c) (funext fun a => ?_)
  match a with
  | 0 => exact Fin.ext (by show win0_4.index t (0 : Fin 1) * 256 + 1 * (y 0).val = (y 0).val; omega)

theorem iblk6 (c : Dev nD) (t : Fin cfg0.N) : iblk m c 6 t = arg6 m c := by
  have e0 := idx6 t
  funext y
  refine congrArg (arg6 m c) (funext fun a => ?_)
  match a with
  | 0 => exact Fin.ext (by show win0_6.index t (0 : Fin 1) * 256 + 1 * (y 0).val = (y 0).val; omega)

theorem iblk3 (c : Dev nD) (t : Fin cfg0.N) : iblk m c 3 t = arg3 m c := by
  obtain ⟨e0, e1⟩ := idx3 t
  funext y
  refine congrArg (arg3 m c) (funext fun a => ?_)
  match a with
  | 0 => exact Fin.ext (by show win0_3.index t (0 : Fin 2) * 772 + 1 * (y 0).val = (y 0).val; omega)
  | 1 => exact Fin.ext (by show win0_3.index t (1 : Fin 2) * 256 + 1 * (y 1).val = (y 1).val; omega)

theorem iblk5 (c : Dev nD) (t : Fin cfg0.N) : iblk m c 5 t = arg5 m c := by
  obtain ⟨e0, e1⟩ := idx5 t
  funext y
  refine congrArg (arg5 m c) (funext fun a => ?_)
  match a with
  | 0 => exact Fin.ext (by show win0_5.index t (0 : Fin 2) * 256 + 1 * (y 0).val = (y 0).val; omega)
  | 1 => exact Fin.ext (by show win0_5.index t (1 : Fin 2) * 256 + 1 * (y 1).val = (y 1).val; omega)

/-! ## What the results hold -/

/-- The embedding of batch `b`. -/
def uOf (c : Dev nD) (b : Fin 8) : Vec F S1x512x256 .f32 :=
  uBlk (xblk (arg0 m c) b) (arg1 m c) (arg3 m c) (arg5 m c) (arg6 m c) (k0_pay2 (arg3 m c) (arg1 m c)) (k0_pay3 (arg3 m c) (arg2 m c) (arg4 m c))

/-- The context: row `b` is batch `b`'s. -/
def ctxAll (c : Dev nD) : Vec F S8x512 .f32 := fun y =>
  ctxRow (xblk (arg0 m c) (y 0)) (fun a => match a with | 0 => (0 : Fin 1) | 1 => y 1)

/-- The prepared rows of the run. -/
def prepOf (c : Dev nD) : Vec F S2x256 .f32 := prep (arg1 m c) (arg2 m c) (arg3 m c) (arg4 m c)

/-- The context's block after point `t`: the rows up to `t` are final. -/
def CtxUpTo (c : Dev nD) (t : ℕ) (X : Vec F S8x512 .f32) : Prop := ∀ y : S8x512.Idx, (y 0).val ≤ t → X y = ctxAll m c y

theorem ctxUpTo_setRow (c : Dev nD) (t : Fin cfg0.N) (X : Vec F S8x512 .f32) (h : ∀ y : S8x512.Idx, (y 0).val < t.val → X y = ctxAll m c y) :
    CtxUpTo m c t.val (setRow (grid0.coords t) X (ctxRow (xblk (arg0 m c) (bat t)))) := fun y hy => by
  have ht : t.val < 8 := Nat.lt_of_lt_of_eq t.isLt N_0
  have e0 : (grid0.coords t 0).val = t.val / 1 % 8 := Pipeline.Grid.coords_val t 0 (by decide) rfl
  unfold setRow
  by_cases hc : (y 0).val = t.val
  · rw [if_pos (by omega)]
    have hb : bat t = y 0 := Fin.ext hc.symm
    rw [hb]
    rfl
  · rw [if_neg (by omega)]
    exact h y (by omega)

/-! ## The proof data -/

/-- The scratch buffer: anything before the first point, the prepared rows afterwards. -/
def PhiS (c : Dev nD) : ℕ → sProp 𝕄
  | 0 => Pipeline.ΦA spec0 c
  | _ + 1 => iprop(owns (c : Thread nD τ) (Memref.whole cc0_scratch0) fullShare (prepOf m c) ∗ (∃ r, prngReg c r))

theorem PhiA_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]
  simp only [owns_whole]
  try rfl

def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => uOf m c (bat t)
    | ⟨8, _⟩ => sfBlk (xblk (arg0 m c) (bat t))
    | ⟨9, _⟩ => simBlk (xblk (arg0 m c) (bat t))
    | ⟨10, _⟩ => ctxAll m c
  Φ t := PhiS m c t.val
  q _ := fullShare
  owed _ := 0

/-- The window held to a relation, -/
def marked (w : Fin cfg0.W) : Bool := match w with
  | ⟨10, _⟩ => true
  | _ => false

/-- and the relation. -/
def rel (c : Dev nD) (w : Fin cfg0.W) (t : Fin cfg0.N) : (((cfg0.win w).block.Idx → Elt F (cfg0.win w).elt) → Prop) := match w with
  | ⟨10, _⟩ => fun X => CtxUpTo m c t.val X
  | _ => fun _ => True

abbrev rdats (c : Dev nD) : RDat τ (Elt F) Unit ℕ (UR sig nD τ) ℕ cfg0 c := (dats m c).toRRel marked (rel m c)

theorem A_eq (c : Dev nD) (w : Fin cfg0.W) : (dats m c).A w = V m c (Pipeline.arrRef spec0 w) := by dsimp only [dats]
theorem after_0 (c : Dev nD) (t : Fin cfg0.N) : (dats m c).after 0 t = iblk m c 0 t := by dsimp only [dats]
theorem after_1 (c : Dev nD) (t : Fin cfg0.N) : (dats m c).after 1 t = iblk m c 1 t := by dsimp only [dats]
theorem after_2 (c : Dev nD) (t : Fin cfg0.N) : (dats m c).after 2 t = iblk m c 2 t := by dsimp only [dats]
theorem after_3 (c : Dev nD) (t : Fin cfg0.N) : (dats m c).after 3 t = iblk m c 3 t := by dsimp only [dats]
theorem after_4 (c : Dev nD) (t : Fin cfg0.N) : (dats m c).after 4 t = iblk m c 4 t := by dsimp only [dats]
theorem after_5 (c : Dev nD) (t : Fin cfg0.N) : (dats m c).after 5 t = iblk m c 5 t := by dsimp only [dats]
theorem after_6 (c : Dev nD) (t : Fin cfg0.N) : (dats m c).after 6 t = iblk m c 6 t := by dsimp only [dats]
theorem after_7 (c : Dev nD) (t : Fin cfg0.N) : (dats m c).after 7 t = uOf m c (bat t) := by dsimp only [dats]
theorem after_8 (c : Dev nD) (t : Fin cfg0.N) : (dats m c).after 8 t = sfBlk (xblk (arg0 m c) (bat t)) := by dsimp only [dats]
theorem after_9 (c : Dev nD) (t : Fin cfg0.N) : (dats m c).after 9 t = simBlk (xblk (arg0 m c) (bat t)) := by dsimp only [dats]

theorem before_0 (c : Dev nD) (t : Fin cfg0.N) (d) : (dats m c).before 0 t d = iblk m c 0 t :=
  before0_0_of m (dats m c) (A_eq m c 0) (after_0 m c) t d
theorem before_1 (c : Dev nD) (t : Fin cfg0.N) (d) : (dats m c).before 1 t d = iblk m c 1 t :=
  before0_1_of m (dats m c) (A_eq m c 1) (after_1 m c) t d
theorem before_2 (c : Dev nD) (t : Fin cfg0.N) (d) : (dats m c).before 2 t d = iblk m c 2 t :=
  before0_2_of m (dats m c) (A_eq m c 2) (after_2 m c) t d
theorem before_3 (c : Dev nD) (t : Fin cfg0.N) (d) : (dats m c).before 3 t d = iblk m c 3 t :=
  before0_3_of m (dats m c) (A_eq m c 3) (after_3 m c) t d
theorem before_4 (c : Dev nD) (t : Fin cfg0.N) (d) : (dats m c).before 4 t d = iblk m c 4 t :=
  before0_4_of m (dats m c) (A_eq m c 4) (after_4 m c) t d
theorem before_5 (c : Dev nD) (t : Fin cfg0.N) (d) : (dats m c).before 5 t d = iblk m c 5 t :=
  before0_5_of m (dats m c) (A_eq m c 5) (after_5 m c) t d
theorem before_6 (c : Dev nD) (t : Fin cfg0.N) (d) : (dats m c).before 6 t d = iblk m c 6 t :=
  before0_6_of m (dats m c) (A_eq m c 6) (after_6 m c) t d

/-- What the body finds in the context's block at a later point: the rows before it are final. -/
theorem finds_10 (c : Dev nD) (t : Fin cfg0.N) (X : Vec F S8x512 .f32) (h : (rdats m c).Finds 10 t X) :
    ∀ y : S8x512.Idx, (y 0).val < t.val → X y = ctxAll m c y := by
  intro y hy
  have ht : t.val < 8 := Nat.lt_of_lt_of_eq t.isLt N_0
  have h0 : t.val ≠ 0 := by omega
  rcases ((rdats m c).finds_of_pos (w := 10) (t := t) rfl h0 X).mp h with h | h
  · exact absurd ((flush0_10 _).mp h) (by show ¬(t.val - 1) % 8 = 7; omega)
  · exact (dats m c).toRRel_leaves (w := 10) rfl h y (by show (y 0).val ≤ t.val - 1; omega)

/-! ## The body obligation -/

def bodyPre (c : Dev nD) (t : Fin cfg0.N) : sProp 𝕄 :=
  iprop((dats m c).Φ t.castSucc ∗ (dats m c).owesAt () t.castSucc
    ∗ (∃ d, owns (c : Thread nD τ) ((cfg0.win 0).stage (cfg0.slots t 0)) fullShare ((dats m c).before 0 t d))
    ∗ (∃ d, owns (c : Thread nD τ) ((cfg0.win 1).stage (cfg0.slots t 1)) fullShare ((dats m c).before 1 t d))
    ∗ (∃ d, owns (c : Thread nD τ) ((cfg0.win 2).stage (cfg0.slots t 2)) fullShare ((dats m c).before 2 t d))
    ∗ (∃ d, owns (c : Thread nD τ) ((cfg0.win 3).stage (cfg0.slots t 3)) fullShare ((dats m c).before 3 t d))
    ∗ (∃ d, owns (c : Thread nD τ) ((cfg0.win 4).stage (cfg0.slots t 4)) fullShare ((dats m c).before 4 t d))
    ∗ (∃ d, owns (c : Thread nD τ) ((cfg0.win 5).stage (cfg0.slots t 5)) fullShare ((dats m c).before 5 t d))
    ∗ (∃ d, owns (c : Thread nD τ) ((cfg0.win 6).stage (cfg0.slots t 6)) fullShare ((dats m c).before 6 t d))
    ∗ (∃ d, owns (c : Thread nD τ) ((cfg0.win 7).stage (cfg0.slots t 7)) fullShare ((dats m c).before 7 t d))
    ∗ (∃ d, owns (c : Thread nD τ) ((cfg0.win 8).stage (cfg0.slots t 8)) fullShare ((dats m c).before 8 t d))
    ∗ (∃ d, owns (c : Thread nD τ) ((cfg0.win 9).stage (cfg0.slots t 9)) fullShare ((dats m c).before 9 t d))
    ∗ (∃ Y, ⌜(rdats m c).Finds 10 t Y⌝ ∗ owns (c : Thread nD τ) ((cfg0.win 10).stage (cfg0.slots t 10)) fullShare (Y)))

def bodyPost (c : Dev nD) (t : Fin cfg0.N) : sProp 𝕄 :=
  iprop((dats m c).Φ t.succ ∗ (dats m c).owesAt () t.succ
    ∗ owns (c : Thread nD τ) ((cfg0.win 0).stage (cfg0.slots t 0)) fullShare ((dats m c).after 0 t)
    ∗ owns (c : Thread nD τ) ((cfg0.win 1).stage (cfg0.slots t 1)) fullShare ((dats m c).after 1 t)
    ∗ owns (c : Thread nD τ) ((cfg0.win 2).stage (cfg0.slots t 2)) fullShare ((dats m c).after 2 t)
    ∗ owns (c : Thread nD τ) ((cfg0.win 3).stage (cfg0.slots t 3)) fullShare ((dats m c).after 3 t)
    ∗ owns (c : Thread nD τ) ((cfg0.win 4).stage (cfg0.slots t 4)) fullShare ((dats m c).after 4 t)
    ∗ owns (c : Thread nD τ) ((cfg0.win 5).stage (cfg0.slots t 5)) fullShare ((dats m c).after 5 t)
    ∗ owns (c : Thread nD τ) ((cfg0.win 6).stage (cfg0.slots t 6)) fullShare ((dats m c).after 6 t)
    ∗ owns (c : Thread nD τ) ((cfg0.win 7).stage (cfg0.slots t 7)) fullShare ((dats m c).after 7 t)
    ∗ owns (c : Thread nD τ) ((cfg0.win 8).stage (cfg0.slots t 8)) fullShare ((dats m c).after 8 t)
    ∗ owns (c : Thread nD τ) ((cfg0.win 9).stage (cfg0.slots t 9)) fullShare ((dats m c).after 9 t)
    ∗ (∃ X, ⌜rel m c 10 t X⌝ ∗ owns (c : Thread nD τ) ((cfg0.win 10).stage (cfg0.slots t 10)) fullShare (X)))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m c).owesAt () t.succ = (dats m c).owesAt () t.castSucc from rfl,
    after_0, after_1, after_2, after_3, after_4, after_5, after_6, after_7, after_8, after_9]
  rw [show (dats m c).Φ t.succ = iprop(owns (c : Thread nD τ) (Memref.whole cc0_scratch0) fullShare (prepOf m c) ∗ (∃ r, prngReg c r)) from rfl,
    show (dats m c).Φ t.castSucc = PhiS m c t.val from rfl]
  simp only [iblk0 m c t, iblk1 m c t, iblk2 m c t, iblk3 m c t, iblk4 m c t, iblk5 m c t, iblk6 m c t]
  have hN : t.val < 8 := Nat.lt_of_lt_of_eq t.isLt N_0
  by_cases hz : t.val = 0
  · rw [show PhiS m c t.val = Pipeline.ΦA spec0 c by rw [hz]; rfl, PhiA_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y, %hY, H10⟩⟩
    iapply (body_first c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (Memref.isWhole_whole _)
      (xblk (arg0 m c) (bat t)) (arg1 m c) (arg2 m c) (arg3 m c) (arg4 m c) (arg5 m c) (arg6 m c) Y ((atStart_iff t).mpr hz) Set.univ _)
    unfold ins
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [H9]; · iexists _; iexact H9
    isplitl [H10]; · iexact H10
    isplitl [HS0]; · iexact HS0
    iintro ⟨⟨H0, H1, H2, H3, H4, H5, H6⟩, H7, H8, H9, H10, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; isplitr
    swap; · iexact H10
    ipureintro
    exact ctxUpTo_setRow m c t Y (fun y hy => absurd hy (by omega))
  · rw [show PhiS m c t.val = iprop(owns (c : Thread nD τ) (Memref.whole cc0_scratch0) fullShare (prepOf m c) ∗ (∃ r, prngReg c r)) by
      obtain ⟨n, hn⟩ := Nat.exists_eq_succ_of_ne_zero hz
      rw [hn]; rfl]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y, %hY, H10⟩⟩
    iapply (body_later c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (Memref.isWhole_whole _)
      (xblk (arg0 m c) (bat t)) (arg1 m c) (arg2 m c) (arg3 m c) (arg4 m c) (arg5 m c) (arg6 m c) Y (fun h => hz ((atStart_iff t).mp h)) (prepOf m c) Set.univ _)
    unfold ins
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [H9]; · iexists _; iexact H9
    isplitl [H10]; · iexact H10
    isplitl [HS0]; · iexact HS0
    rw [show rowOf 0 (prepOf m c) = k0_pay2 (arg3 m c) (arg1 m c) from rowOf_zero _ _,
      show rowOf 1 (prepOf m c) = k0_pay3 (arg3 m c) (arg2 m c) (arg4 m c) from rowOf_one _ _]
    iintro ⟨⟨H0, H1, H2, H3, H4, H5, H6⟩, H7, H8, H9, H10, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; isplitr
    swap; · iexact H10
    ipureintro
    exact ctxUpTo_setRow m c t Y (finds_10 m c t Y hY)

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationRel (dats (F := F) m c) (defs₀ (F := F)) Variants.none () Set.univ marked (rel m c) := fun t => by
  rw [bigSep_W0, bigSep_W0, defs₀_row]
  exact triple_restated (sound_body m c t) rfl .rfl fun _ => .rfl

theorem hin (c : Dev nD) : Pipeline.ΦA spec0 c ⊢ (dats m c).Φ 0 := by
  rw [show (dats m c).Φ 0 = Pipeline.ΦA spec0 c from rfl]

theorem hout (c : Dev nD) : (dats m c).Φ (Fin.last cfg0.N) ⊢ Pipeline.ΦA spec0 c := by
  rw [show (dats m c).Φ (Fin.last cfg0.N)
      = iprop(owns (c : Thread nD τ) (Memref.whole cc0_scratch0) fullShare (prepOf m c) ∗ (∃ r, prngReg c r))
    from congrArg (PhiS m c) N_0, PhiA_eq]
  iintro ⟨HS0, Hg⟩
  isplitl [HS0]
  · iexists _; iexact HS0
  iexact Hg

set_option backward.isDefEq.respectTransparency.types false in
/-- Every run of the kernel ends, the arrays at what the proof data say and every counter at zero. -/
theorem run_main : θ_run defs (onTc (τ := τ) (main (F := F))) (s₀ m ρ)
    (fun r => RDat.FramePost cfg0 (rdats m) (V m) r ∧ r.2.sem = fun _ => 0) :=
  Pipeline.RDat.θ_run_frame_track (Q' := _) cfgs (0 : Fin 1) launch0 defs₀ Variants.none (rdats m) m ρ main
    (hbody := fun c => (body_obligation m c).toRRel) (hshare := fun c => (dats m c).share_full fun _ => rfl)
    (howed := fun _ _ => rfl) (V := V m) (hmain := hmain m Variants.none) (hA := A_eq m) (hin := hin m) (hout := hout m)
    (hQ' := fun _ h => h)

end Cert.KI

end
-- ==== Proof.KI.Value.lean ====
/- The kernel's results after a run: each result's array is what the points leave in their blocks. -/
module

public import proofs.«01_k».proof.Proof.KI.Run
public import Idealize.ShloMosaic.Lib.Pipeline.ArrRel
public import Idealize.ShloMosaic.Lib.Claim

@[expose] public section

set_option maxRecDepth 16384

noncomputable section

namespace Cert.KI

open Cert.KernelIdeal Cert.KernelIdeal.Gen
open Idealize.ShloMosaic Idealize.ShloMosaic.TcCoe
open Idealize.SL Idealize.SL.Sem
open Idealize.ShloMosaic.Rounds
open Idealize.ShloMosaic.Pipeline (Dat RDat Cfg Window cellOf)

variable {F : FTy → Type} [FloatOps F] [Named F]
variable (m : (ℓ : Loc nD τ sig) → Buf (Elt F) ℓ) (ρ : Dev nD → PrngReg)

/-! ## Window 7 -/

def uAll (c : Dev nD) : Vec F S8x512x256 .f32 := fun y =>
  (uOf m c (y 0)) (fun a => match a with | 0 => (0 : Fin 1) | 1 => y 1 | 2 => y 2)

theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)

theorem flushed7 (c : Dev nD) (t : Fin cfg0.N) :
    (dats m c).flushed 7 t = ((cfg0.win 7).blk t).view.read (Elt F) (uAll m c) := by
  show (cfg0.win 7).cut (grid0.coords t) ((dats m c).after 7 t) = _
  rw [after_7]
  obtain ⟨e0, e1, e2⟩ := idx7 t
  funext y
  have hy0 : (y 0).val < 1 := (y 0).isLt
  have hb : ((cfg0.win 7).blk t).view.emb y = (fun a => match a with | 0 => bat t | 1 => y 1 | 2 => y 2 : S8x512x256.Idx) := by
    funext a
    match a with
    | 0 => exact Fin.ext (by show win0_7.index t (0 : Fin 3) * 1 + 1 * (y 0).val = t.val; omega)
    | 1 => exact Fin.ext (by show win0_7.index t (1 : Fin 3) * 512 + 1 * (y 1).val = (y 1).val; omega)
    | 2 => exact Fin.ext (by show win0_7.index t (2 : Fin 3) * 256 + 1 * (y 2).val = (y 2).val; omega)
  show _ = uAll m c (((cfg0.win 7).blk t).view.emb y)
  rw [hb]
  refine congrArg (uOf m c (bat t)) (funext fun a => ?_)
  match a with
  | 0 => exact Fin.ext (show (y 0).val = 0 by omega)
  | 1 => rfl
  | 2 => rfl

theorem cover7 (i : S8x512x256.Idx) : ∃ t : Fin cfg0.N, (cfg0.win 7).flush t = true ∧ i ∈ ((cfg0.win 7).blk t).view.set := by
  have h0 : (i 0).val < 8 := (i 0).isLt
  have h1 : (i 1).val < 512 := (i 1).isLt
  have h2 : (i 2).val < 256 := (i 2).isLt
  let t : Fin cfg0.N := ⟨(i 0).val, Nat.lt_of_lt_of_eq h0 N_0.symm⟩
  obtain ⟨e0, e1, e2⟩ := idx7 t
  refine ⟨t, flush0_7 t, ?_⟩
  show i ∈ ((View.whole main_v0_0).slice (win0_7.rect t)).set
  rw [View.set_slice_whole]
  refine Rect.mem_set_unit.mpr fun a => ?_
  match a with
  | ⟨0, _⟩ => show win0_7.index t (0 : Fin 3) * 1 ≤ (i 0).val ∧ (i 0).val < win0_7.index t (0 : Fin 3) * 1 + 1; rw [e0]; show (i 0).val * 1 ≤ (i 0).val ∧ (i 0).val < (i 0).val * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 256 ≤ (i 2).val ∧ (i 2).val < win0_7.index t (2 : Fin 3) * 256 + 256; omega

theorem final7 (c : Dev nD) : (dats m c).arrAt 7 cfg0.N = uAll m c :=
  (dats m c).arrAt_eq_of_cover 7 _ (fun t _ => flushed7 m c t) cover7

/-! ## Window 8 -/

def sfAll (c : Dev nD) : Vec F S8x512x260 .f32 := fun y =>
  (sfBlk (xblk (arg0 m c) (y 0))) (fun a => match a with | 0 => (0 : Fin 1) | 1 => y 1 | 2 => y 2)

theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)

theorem flushed8 (c : Dev nD) (t : Fin cfg0.N) :
    (dats m c).flushed 8 t = ((cfg0.win 8).blk t).view.read (Elt F) (sfAll m c) := by
  show (cfg0.win 8).cut (grid0.coords t) ((dats m c).after 8 t) = _
  rw [after_8]
  obtain ⟨e0, e1, e2⟩ := idx8 t
  funext y
  have hy0 : (y 0).val < 1 := (y 0).isLt
  have hb : ((cfg0.win 8).blk t).view.emb y = (fun a => match a with | 0 => bat t | 1 => y 1 | 2 => y 2 : S8x512x260.Idx) := by
    funext a
    match a with
    | 0 => exact Fin.ext (by show win0_8.index t (0 : Fin 3) * 1 + 1 * (y 0).val = t.val; omega)
    | 1 => exact Fin.ext (by show win0_8.index t (1 : Fin 3) * 512 + 1 * (y 1).val = (y 1).val; omega)
    | 2 => exact Fin.ext (by show win0_8.index t (2 : Fin 3) * 260 + 1 * (y 2).val = (y 2).val; omega)
  show _ = sfAll m c (((cfg0.win 8).blk t).view.emb y)
  rw [hb]
  refine congrArg (sfBlk (xblk (arg0 m c) (bat t))) (funext fun a => ?_)
  match a with
  | 0 => exact Fin.ext (show (y 0).val = 0 by omega)
  | 1 => rfl
  | 2 => rfl

theorem cover8 (i : S8x512x260.Idx) : ∃ t : Fin cfg0.N, (cfg0.win 8).flush t = true ∧ i ∈ ((cfg0.win 8).blk t).view.set := by
  have h0 : (i 0).val < 8 := (i 0).isLt
  have h1 : (i 1).val < 512 := (i 1).isLt
  have h2 : (i 2).val < 260 := (i 2).isLt
  let t : Fin cfg0.N := ⟨(i 0).val, Nat.lt_of_lt_of_eq h0 N_0.symm⟩
  obtain ⟨e0, e1, e2⟩ := idx8 t
  refine ⟨t, flush0_8 t, ?_⟩
  show i ∈ ((View.whole main_v0_1).slice (win0_8.rect t)).set
  rw [View.set_slice_whole]
  refine Rect.mem_set_unit.mpr fun a => ?_
  match a with
  | ⟨0, _⟩ => show win0_8.index t (0 : Fin 3) * 1 ≤ (i 0).val ∧ (i 0).val < win0_8.index t (0 : Fin 3) * 1 + 1; rw [e0]; show (i 0).val * 1 ≤ (i 0).val ∧ (i 0).val < (i 0).val * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 260 ≤ (i 2).val ∧ (i 2).val < win0_8.index t (2 : Fin 3) * 260 + 260; omega

theorem final8 (c : Dev nD) : (dats m c).arrAt 8 cfg0.N = sfAll m c :=
  (dats m c).arrAt_eq_of_cover 8 _ (fun t _ => flushed8 m c t) cover8

/-! ## Window 9 -/

def simAll (c : Dev nD) : Vec F S8x512x512 .f32 := fun y =>
  (simBlk (xblk (arg0 m c) (y 0))) (fun a => match a with | 0 => (0 : Fin 1) | 1 => y 1 | 2 => y 2)

theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)

theorem flushed9 (c : Dev nD) (t : Fin cfg0.N) :
    (dats m c).flushed 9 t = ((cfg0.win 9).blk t).view.read (Elt F) (simAll m c) := by
  show (cfg0.win 9).cut (grid0.coords t) ((dats m c).after 9 t) = _
  rw [after_9]
  obtain ⟨e0, e1, e2⟩ := idx9 t
  funext y
  have hy0 : (y 0).val < 1 := (y 0).isLt
  have hb : ((cfg0.win 9).blk t).view.emb y = (fun a => match a with | 0 => bat t | 1 => y 1 | 2 => y 2 : S8x512x512.Idx) := by
    funext a
    match a with
    | 0 => exact Fin.ext (by show win0_9.index t (0 : Fin 3) * 1 + 1 * (y 0).val = t.val; omega)
    | 1 => exact Fin.ext (by show win0_9.index t (1 : Fin 3) * 512 + 1 * (y 1).val = (y 1).val; omega)
    | 2 => exact Fin.ext (by show win0_9.index t (2 : Fin 3) * 512 + 1 * (y 2).val = (y 2).val; omega)
  show _ = simAll m c (((cfg0.win 9).blk t).view.emb y)
  rw [hb]
  refine congrArg (simBlk (xblk (arg0 m c) (bat t))) (funext fun a => ?_)
  match a with
  | 0 => exact Fin.ext (show (y 0).val = 0 by omega)
  | 1 => rfl
  | 2 => rfl

theorem cover9 (i : S8x512x512.Idx) : ∃ t : Fin cfg0.N, (cfg0.win 9).flush t = true ∧ i ∈ ((cfg0.win 9).blk t).view.set := by
  have h0 : (i 0).val < 8 := (i 0).isLt
  have h1 : (i 1).val < 512 := (i 1).isLt
  have h2 : (i 2).val < 512 := (i 2).isLt
  let t : Fin cfg0.N := ⟨(i 0).val, Nat.lt_of_lt_of_eq h0 N_0.symm⟩
  obtain ⟨e0, e1, e2⟩ := idx9 t
  refine ⟨t, flush0_9 t, ?_⟩
  show i ∈ ((View.whole main_v0_2).slice (win0_9.rect t)).set
  rw [View.set_slice_whole]
  refine Rect.mem_set_unit.mpr fun a => ?_
  match a with
  | ⟨0, _⟩ => show win0_9.index t (0 : Fin 3) * 1 ≤ (i 0).val ∧ (i 0).val < win0_9.index t (0 : Fin 3) * 1 + 1; rw [e0]; show (i 0).val * 1 ≤ (i 0).val ∧ (i 0).val < (i 0).val * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 512 ≤ (i 2).val ∧ (i 2).val < win0_9.index t (2 : Fin 3) * 512 + 512; omega

theorem final9 (c : Dev nD) : (dats m c).arrAt 9 cfg0.N = simAll m c :=
  (dats m c).arrAt_eq_of_cover 9 _ (fun t _ => flushed9 m c t) cover9

/-! ## After the run -/

/-- What an unmarked window's array holds. -/
theorem arr_unmarked (c : Dev nD) (w : Fin cfg0.W) (hw : marked w = false) (G) (h : (rdats m c).ArrAt w cfg0.N G) :
    G = (dats m c).arrAt w cfg0.N :=
  (((dats m c).toR.override_arrAt (by simp only [hw]) _ _).trans ((dats m c).toR_arrAt_iff w _ _)).mp h

theorem wholeAt10 : (cfg0.win 10).WholeAt t0_7 := by
  show win0_10.WholeAt t0_7
  decide +kernel

/-- The context's array. -/
theorem final10 (c : Dev nD) (G : Vec F S8x512 .f32) (h : (rdats m c).ArrAt 10 cfg0.N G) : G = ctxAll m c := by
  obtain ⟨X, hX, hG⟩ := RDat.ArrAt.emb_eq_of_wholeAt (w := 10) h wholeAt10
  have hR := (dats m c).toRRel_leaves (w := 10) rfl hX
  funext y
  have hy : (y 0).val < 8 := (y 0).isLt
  exact (hG y).trans (hR y (by show (y 0).val ≤ 7; omega))

/-- What a run of the kernel leaves. -/
theorem run_vals : θ_run defs (onTc (τ := τ) (main (F := F))) (s₀ m ρ) (fun r => (∀ c : Dev nD,
      (r.2.mem ((c.tc : Thread nD τ).loc main_v0_0) = uAll m c
      ∧ r.2.mem ((c.tc : Thread nD τ).loc main_v0_1) = sfAll m c
      ∧ r.2.mem ((c.tc : Thread nD τ).loc main_v0_2) = simAll m c
      ∧ r.2.mem ((c.tc : Thread nD τ).loc main_v0_3) = ctxAll m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨⟨
      (arr_unmarked m c 7 rfl _ ((h.1 c).1 7)).trans (final7 m c),
      (arr_unmarked m c 8 rfl _ ((h.1 c).1 8)).trans (final8 m c),
      (arr_unmarked m c 9 rfl _ ((h.1 c).1 9)).trans (final9 m c),
      final10 m c _ ((h.1 c).1 10)⟩,
      (arr_unmarked m c 0 rfl _ ((h.1 c).1 0)).trans (((dats m c).arrAt_in 0 rfl _).trans (A_eq m c 0)),
      (arr_unmarked m c 1 rfl _ ((h.1 c).1 1)).trans (((dats m c).arrAt_in 1 rfl _).trans (A_eq m c 1)),
      (arr_unmarked m c 2 rfl _ ((h.1 c).1 2)).trans (((dats m c).arrAt_in 2 rfl _).trans (A_eq m c 2)),
      (arr_unmarked m c 3 rfl _ ((h.1 c).1 3)).trans (((dats m c).arrAt_in 3 rfl _).trans (A_eq m c 3)),
      (arr_unmarked m c 4 rfl _ ((h.1 c).1 4)).trans (((dats m c).arrAt_in 4 rfl _).trans (A_eq m c 4)),
      (arr_unmarked m c 5 rfl _ ((h.1 c).1 5)).trans (((dats m c).arrAt_in 5 rfl _).trans (A_eq m c 5)),
      (arr_unmarked m c 6 rfl _ ((h.1 c).1 6)).trans (((dats m c).arrAt_in 6 rfl _).trans (A_eq m c 6))⟩, h.2⟩) (run_main m ρ)

end Cert.KI

end
-- ==== Proof.KP.Args.lean ====
/- The run of the kernel as printed at the machine's words, read at the argument arrays. -/
module

public import proofs.«01_k».proof.Proof.KP.Run
public import Idealize.ShloMosaic.Lib.Pipeline.ArrRel
public import Idealize.ShloMosaic.Lib.Claim

@[expose] public section

set_option maxRecDepth 16384

noncomputable section

namespace Cert.KP

open Cert.Kernel Cert.Kernel.Gen
open Idealize.ShloMosaic Idealize.ShloMosaic.TcCoe
open Idealize.SL Idealize.SL.Sem
open Idealize.ShloMosaic.Rounds
open Idealize.ShloMosaic.Pipeline (Dat RDat Cfg Window cellOf)

variable {F : FTy → Type} [FloatOps F]
variable (m : (ℓ : Loc nD τ sig) → Buf (Elt F) ℓ) (ρ : Dev nD → PrngReg)

/-- What an unmarked window's array holds. -/
theorem arr_unmarked (c : Dev nD) (w : Fin cfg0.W) (hw : marked w = false) (G) (h : (rdats m c).ArrAt w cfg0.N G) :
    G = (dats m c).arrAt w cfg0.N :=
  (((dats m c).toR.override_arrAt (by simp only [hw]) _ _).trans ((dats m c).toR_arrAt_iff w _ _)).mp h

/-- A run of the kernel leaves its arguments as they were and every counter at zero. -/
theorem run_args : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(arr_unmarked m c 0 rfl _ ((h.1 c).1 0)).trans (((dats m c).arrAt_in 0 rfl _).trans (A_eq m c 0)),
      (arr_unmarked m c 1 rfl _ ((h.1 c).1 1)).trans (((dats m c).arrAt_in 1 rfl _).trans (A_eq m c 1)),
      (arr_unmarked m c 2 rfl _ ((h.1 c).1 2)).trans (((dats m c).arrAt_in 2 rfl _).trans (A_eq m c 2)),
      (arr_unmarked m c 3 rfl _ ((h.1 c).1 3)).trans (((dats m c).arrAt_in 3 rfl _).trans (A_eq m c 3)),
      (arr_unmarked m c 4 rfl _ ((h.1 c).1 4)).trans (((dats m c).arrAt_in 4 rfl _).trans (A_eq m c 4)),
      (arr_unmarked m c 5 rfl _ ((h.1 c).1 5)).trans (((dats m c).arrAt_in 5 rfl _).trans (A_eq m c 5)),
      (arr_unmarked m c 6 rfl _ ((h.1 c).1 6)).trans (((dats m c).arrAt_in 6 rfl _).trans (A_eq m c 6))⟩, h.2⟩) (run_main m ρ)

end Cert.KP

end
-- ==== Proof.Frames.lean ====
/- The claims of the three programs' runs: each ends, its arguments as they were and every counter at zero. -/
module

public import proofs.«01_k».proof.Defs
public import proofs.«01_k».proof.Proof.KI.Value
public import proofs.«01_k».proof.Proof.KP.Args
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem

/-- The kernel's run. -/
theorem frame_p : Cert.quiescent_Kernel := fun m ρ _ => Cert.KP.run_args (F := Bits) m ρ

/-- The idealized kernel's frame. -/
theorem frame_pi : Cert.quiescent_KernelIdeal := fun m ρ _ =>
  (θ_run Cert.KernelIdeal.defs _ _).mono (fun _ h => ⟨fun c => (h.1 c).2, h.2⟩) (Cert.KI.run_vals (F := Ideal) m ρ)

/-- The reference's run: it declares no counter. -/
theorem frame_ri : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The kernel's one named constant. -/
theorem preserves : Cert.preserves_Kernel_KernelIdeal :=
  IdealRules.named_const.statement Cert.KernelIdeal.κ "inv_in" .f32 0x3AA9C84A#32 ((1 / 772 : ℝ) : EReal) rfl

end Cert.Proof

end
-- ==== Proof.M.Consts.lean ====
/- The constants of the kernel and of the reference, as the real numbers that they denote. -/
module

public import Idealize.ShloMosaic.PureOps.Ideal
public import Mathlib.Tactic.NormNum

@[expose] public section

noncomputable section

namespace Cert.M

open Idealize.ShloMosaic

/-- The float nearest `1e-12`. -/
def e12 : ℝ := 2305843 / 2305843009213693952

/-- The float nearest `1e-8`. -/
def e8 : ℝ := 11258999 / 1125899906842624

/-- The float nearest `1e-6`. -/
def e6 : ℝ := 8796093 / 8796093022208

/-- The float nearest `1e-5`. -/
def e5 : ℝ := 2748779 / 274877906944

/-- The float nearest `1e18`. -/
def big : ℝ := 999999984306749440 / 1

/-- The float nearest `1e9`. -/
def diag : ℝ := 1000000000 / 1

/-- The float nearest `1e7`. -/
def lim : ℝ := 10000000 / 1

theorem ofBits_e12 : Ideal.ofBits .f32 730643660#32 = ((e12 : ℝ) : EReal) := by
  simp [Ideal.ofBits, Ideal.ieee, e12, -EReal.coe_mul]; norm_num

theorem ofBits_e8 : Ideal.ofBits .f32 841731191#32 = ((e8 : ℝ) : EReal) := by
  simp [Ideal.ofBits, Ideal.ieee, e8, -EReal.coe_mul]; norm_num

theorem ofBits_e6 : Ideal.ofBits .f32 897988541#32 = ((e6 : ℝ) : EReal) := by
  simp [Ideal.ofBits, Ideal.ieee, e6, -EReal.coe_mul]; norm_num

theorem ofBits_e5 : Ideal.ofBits .f32 925353388#32 = ((e5 : ℝ) : EReal) := by
  simp [Ideal.ofBits, Ideal.ieee, e5, -EReal.coe_mul]; norm_num

theorem ofBits_big : Ideal.ofBits .f32 1566444395#32 = ((big : ℝ) : EReal) := by
  simp [Ideal.ofBits, Ideal.ieee, big, -EReal.coe_mul]; norm_num

theorem ofBits_diag : Ideal.ofBits .f32 1315859240#32 = ((diag : ℝ) : EReal) := by
  simp [Ideal.ofBits, Ideal.ieee, diag, -EReal.coe_mul]; norm_num

theorem ofBits_lim : Ideal.ofBits .f32 1259902592#32 = ((lim : ℝ) : EReal) := by
  simp [Ideal.ofBits, Ideal.ieee, lim, -EReal.coe_mul]

theorem ofBits_two : Ideal.ofBits .f32 1073741824#32 = ((2 : ℝ) : EReal) := by
  simp [Ideal.ofBits, Ideal.ieee, -EReal.coe_mul]; norm_num

theorem ofBits_quarter : Ideal.ofBits .f32 1048576000#32 = (((1 / 4) : ℝ) : EReal) := by
  simp [Ideal.ofBits, Ideal.ieee, -EReal.coe_mul]; norm_num

theorem ofBits_four : Ideal.ofBits .f32 1082130432#32 = ((4 : ℝ) : EReal) := by
  simp [Ideal.ofBits, Ideal.ieee, -EReal.coe_mul]; norm_num

theorem ofBits_n512 : Ideal.ofBits .f32 1140850688#32 = ((512 : ℝ) : EReal) := by
  simp [Ideal.ofBits, Ideal.ieee, -EReal.coe_mul]; norm_num

theorem ofBits_n772 : Ideal.ofBits .f32 1145110528#32 = ((772 : ℝ) : EReal) := by
  simp [Ideal.ofBits, Ideal.ieee, -EReal.coe_mul]; norm_num

theorem ofBits_inf : Ideal.ofBits .f32 2139095040#32 = (⊤ : EReal) := by
  simp [Ideal.ofBits, Ideal.ieee]

theorem e12_pos : 0 < e12 := by norm_num [e12]

theorem e8_pos : 0 < e8 := by norm_num [e8]

theorem e6_pos : 0 < e6 := by norm_num [e6]

theorem e5_pos : 0 < e5 := by norm_num [e5]

end Cert.M

end
-- ==== Proof.M.Coe.lean ====
/- Extended-real arithmetic on real numbers. -/
module

public import proofs.«01_k».proof.Proof.M.Consts
public import Mathlib.Data.Finset.Fold
public import Mathlib.Data.Finset.Lattice.Fold

@[expose] public section

noncomputable section

namespace Cert.M

open Idealize.ShloMosaic
open scoped BigOperators

theorem coe_sum {ι : Type} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) f s

theorem div_real (x : ℝ) {y : ℝ} (h : y ≠ 0) : Ideal.div (x : EReal) (y : EReal) = ((x / y : ℝ) : EReal) := by
  rw [Ideal.div_coe h, ← EReal.coe_mul, mul_one_div]

theorem sqrt_real {x : ℝ} (h : 0 ≤ x) : Ideal.sqrt (x : EReal) = ((√x : ℝ) : EReal) := by
  rw [Ideal.sqrt_coe, if_neg (not_lt.mpr h)]

theorem rsqrt_real {x : ℝ} (h : 0 < x) : Ideal.rsqrt (x : EReal) = (((√x)⁻¹ : ℝ) : EReal) := by
  rw [Ideal.rsqrt_coe, if_neg (not_lt.mpr h.le), if_neg h.ne']

theorem max_real (x y : ℝ) : max (x : EReal) (y : EReal) = ((max x y : ℝ) : EReal) :=
  ((show Monotone fun r : ℝ => (r : EReal) from fun _ _ h => EReal.coe_le_coe_iff.mpr h).map_max (a := x) (b := y)).symm

theorem max_real_zero (x : ℝ) : max (x : EReal) 0 = ((max x 0 : ℝ) : EReal) := max_real x 0

/-- A minimum taken over a finite family is the value at a place that is below all others. -/
theorem fold_min_eq {ι : Type} [Fintype ι] {f : ι → EReal} {v : EReal} (a : ι) (ha : f a = v) (h : ∀ s, v ≤ f s) :
    Finset.fold min ⊤ f Finset.univ = v :=
  le_antisymm ((Finset.fold_min_le _).mpr (Or.inr ⟨a, Finset.mem_univ a, ha.le⟩))
    ((Finset.le_fold_min _).mpr ⟨le_top, fun s _ => h s⟩)

/-- A real factor distributes over a sum with a real summand. -/
theorem add_mul_real (a w : ℝ) (b : EReal) : ((a : EReal) + b) * (w : EReal) = ((a * w : ℝ) : EReal) + b * (w : EReal) := by
  induction b with
  | coe b => rw [← EReal.coe_add, ← EReal.coe_mul, ← EReal.coe_mul, ← EReal.coe_add, add_mul]
  | top =>
    rw [EReal.coe_add_top]
    rcases lt_trichotomy w 0 with h | h | h
    · rw [EReal.top_mul_coe_of_neg h, EReal.add_bot]
    · subst h; simp
    · rw [EReal.top_mul_coe_of_pos h, EReal.coe_add_top]
  | bot =>
    rw [EReal.add_bot]
    rcases lt_trichotomy w 0 with h | h | h
    · rw [EReal.bot_mul_coe_of_neg h, EReal.coe_add_top]
    · subst h; simp
    · rw [EReal.bot_mul_coe_of_pos h, EReal.add_bot]

/-- An extended real whose absolute value is below a real bound is a real number within the bound. -/
theorem real_of_abs_le {x : EReal} {r : ℝ} (h : max x (-x) ≤ (r : EReal)) : ((x.toReal : ℝ) : EReal) = x ∧ |x.toReal| ≤ r := by
  have h1 := (le_max_left x (-x)).trans h
  have h2 := (le_max_right x (-x)).trans h
  induction x with
  | coe x =>
    refine ⟨rfl, ?_⟩
    rw [EReal.toReal_coe, abs_le]
    rw [← EReal.coe_neg] at h2
    exact ⟨by linarith [EReal.coe_le_coe_iff.mp h2], EReal.coe_le_coe_iff.mp h1⟩
  | top => exact absurd h1 (not_le.mpr (EReal.coe_lt_top r))
  | bot => exact absurd h2 (not_le.mpr (by rw [EReal.neg_bot]; exact EReal.coe_lt_top r))

/-- An extended real whose absolute value is below infinity is a real number. -/
theorem real_of_abs_lt {x : EReal} (h : max x (-x) < ⊤) : ((x.toReal : ℝ) : EReal) = x := by
  induction x with
  | coe x => rfl
  | top => exact absurd ((le_max_left (⊤ : EReal) _).trans_lt h) (lt_irrefl _)
  | bot => exact absurd ((le_max_right (⊥ : EReal) _).trans_lt h) (by simp)

/-- The words of two token numbers are equal when the numbers are. -/
theorem word_eq (i j : Fin 512) :
    IntOp.cmpi .eq (BitVec.ofNat 32 i.val) (BitVec.ofNat 32 j.val) = BitVec.ofBool (decide (i = j)) := by
  show BitVec.ofBool (BitVec.ofNat 32 i.val == BitVec.ofNat 32 j.val) = _
  congr 1
  have h1 := i.isLt
  have h2 := j.isLt
  rw [Bool.eq_iff_iff, beq_iff_eq, decide_eq_true_iff, ← BitVec.toNat_inj, BitVec.toNat_ofNat, BitVec.toNat_ofNat, Fin.ext_iff,
    Nat.mod_eq_of_lt (by omega), Nat.mod_eq_of_lt (by omega)]

/-- The Gaussian error unit of `pre`, through the linear map with column `w` and offset `b`. -/
def embed (pre w : Fin 256 → EReal) (b : EReal) : EReal :=
  ∑ n, Ideal.ofBits .f32 1056964608#32 * pre n * (1 + Ideal.erf (pre n * Ideal.ofBits .f32 1060439283#32)) * w n + b

end Cert.M

end
-- ==== Proof.RI.TopK.lean ====
/- The reference's greatest four values of a row, by the permutation that sorts the row downwards. -/
module

public import proofs.«01_k».proof.Proof.Gen.ReferenceIdeal.Read
public import proofs.«01_k».proof.Proof.M.Coe
public import Idealize.ShloMosaic.Lib.Pointwise
public import Idealize.ShloMosaic.Lib.SortFacts

@[expose] public section

set_option maxRecDepth 16384

noncomputable section

namespace Cert.RI

open Cert.ReferenceIdeal Idealize.ShloMosaic

variable (v : S8x512x512.Idx → EReal) (b : Fin 8) (j : Fin 512)

/-- Whether place `k` of the row comes before place `k'`. -/
def before (k k' : Fin 512) : Bool :=
  FloatOps.cmpfTotal (F := Ideal) (φ := .f32) .gt (v (ix3 b j k)) (v (ix3 b j k')) == 1#1

/-- The places of the row, from the greatest value to the smallest. -/
def order (k : Fin 512) : Fin 512 := sortedFrom (before v b j) k

theorem before_iff (k k' : Fin 512) : before v b j k k' = true ↔ v (ix3 b j k') < v (ix3 b j k) := by
  show (BitVec.ofBool (decide (v (ix3 b j k') < v (ix3 b j k))) == 1#1) = true ↔ _
  by_cases h : v (ix3 b j k') < v (ix3 b j k) <;> simp [h]

theorem before_false_iff (k k' : Fin 512) : before v b j k k' = false ↔ v (ix3 b j k) ≤ v (ix3 b j k') := by
  rw [← not_lt, ← before_iff, Bool.not_eq_true]

theorem order_antitone {i k : Fin 512} (h : i < k) : v (ix3 b j (order v b j k)) ≤ v (ix3 b j (order v b j i)) := by
  rw [← before_false_iff]
  refine sortedFrom_noInversion (before v b j) (before v b j) (fun p q hp => ?_) (fun _ _ hp => hp) (fun p q r hp hq => ?_) i k h
  · rw [before_iff] at hp
    rw [before_false_iff]
    exact hp.le
  · rw [before_false_iff] at hp hq ⊢
    exact hp.trans hq

theorem order_injective : Function.Injective (order v b j) := sortedFrom_injective _

theorem order_surjective : Function.Surjective (order v b j) := sortedFrom_surjective _

/-- The `k`-th of the greatest four values of the row. -/
theorem topK_at (h : S8x512x512.Slices (fun _ => 0) S8x512x4) (k : Fin 4) :
    (Host.topK S8x512x4 2 (FloatOps.cmpfTotal (F := Ideal) (φ := .f32) .gt) v h).1 (ix3 b j k)
      = v (ix3 b j (order v b j ⟨k.val, by omega⟩)) := by
  unfold Host.topK Host.sort2
  simp only [dif_pos (show 2 < S8x512x512.rank by decide)]
  pointwise []
  have ha : ∀ p q : Fin 512, (ix3 b j p : S8x512x512.Idx).along 2 q = ix3 b j q := fun p q => by
    funext a
    match a with
    | ⟨0, _⟩ => rfl
    | ⟨1, _⟩ => rfl
    | ⟨2, _⟩ => rfl
  simp only [ha]
  rfl

end Cert.RI

end
-- ==== Proof.M.Spec.lean ====
/- The quantities of the module over the real numbers, for one batch entry `X` of tokens. -/
module

public import proofs.«01_k».proof.Proof.M.Consts
public import Mathlib.Tactic.Ring
public import Mathlib.Tactic.Linarith

@[expose] public section

noncomputable section

namespace Cert.M

open scoped BigOperators

variable (X : Fin 512 → Fin 256 → ℝ)

/-- The squared norm of token `t`. -/
def sq (t : Fin 512) : ℝ := ∑ d, X t d * X t d

/-- The inner product of two tokens. -/
def gram (i j : Fin 512) : ℝ := ∑ d, X i d * X j d

/-- The squared distance of two tokens, by their norms and inner product. -/
def d2 (i j : Fin 512) : ℝ := sq X i + sq X j - 2 * gram X i j

/-- The guarded distance of two tokens. -/
def dist (i j : Fin 512) : ℝ := √(max (d2 X i j) 0 + e12)

/-- The mean token. -/
def mean (d : Fin 256) : ℝ := (∑ t, X t d) / 512

/-- The distance of token `t` to the mean token. -/
def cdist (t : Fin 512) : ℝ := √(∑ d, (X t d - mean X d) * (X t d - mean X d) + e12)

/-- The norm of token `t`. -/
def nrm (t : Fin 512) : ℝ := √(sq X t + e12)

/-- The sum of squared deviations from the mean token in component `d`. -/
def dev (d : Fin 256) : ℝ := ∑ t, (X t d - mean X d) * (X t d - mean X d)

/-- The standard deviation of the tokens in component `d`. -/
def sd (d : Fin 256) : ℝ := √(dev X d / 512 + e6)

/-- The context: the mean token, and after it the standard deviations. -/
def ctx (j : Fin 512) : ℝ := if h : j.val < 256 then mean X ⟨j.val, h⟩ else sd X ⟨j.val - 256, by omega⟩

/-- The features of token `t`: its components, its distance to the mean token, its mean distance `kn t` to the
    nearest tokens, its norm, and a one. -/
def feat (kn : Fin 512 → ℝ) (t : Fin 512) (j : Fin 260) : ℝ :=
  if h : j.val < 256 then X t ⟨j.val, h⟩
  else if j.val = 256 then cdist X t else if j.val = 257 then kn t else if j.val = 258 then nrm X t else 1

/-- The features and the context, one after the other. -/
def full (kn : Fin 512 → ℝ) (t : Fin 512) (j : Fin 772) : ℝ :=
  if h : j.val < 260 then feat X kn t ⟨j.val, h⟩ else ctx X ⟨j.val - 260, by omega⟩

theorem sq_nonneg (t : Fin 512) : 0 ≤ sq X t := Finset.sum_nonneg fun _ _ => mul_self_nonneg _

theorem dev_nonneg (d : Fin 256) : 0 ≤ dev X d := Finset.sum_nonneg fun _ _ => mul_self_nonneg _

theorem gram_comm (i j : Fin 512) : gram X i j = gram X j i := Finset.sum_congr rfl fun _ _ => mul_comm _ _

theorem d2_comm (i j : Fin 512) : d2 X i j = d2 X j i := by rw [d2, d2, gram_comm X i j]; ring

theorem dist_comm (i j : Fin 512) : dist X i j = dist X j i := by rw [dist, dist, d2_comm X i j]

/-- The squared distance is a sum of squares. -/
theorem d2_eq_sum (i j : Fin 512) : d2 X i j = ∑ d, (X i d - X j d) * (X i d - X j d) := by
  rw [d2, sq, sq, gram, Finset.mul_sum, ← Finset.sum_add_distrib, ← Finset.sum_sub_distrib]
  exact Finset.sum_congr rfl fun d _ => by ring

theorem d2_nonneg (i j : Fin 512) : 0 ≤ d2 X i j := by
  rw [d2_eq_sum]; exact Finset.sum_nonneg fun _ _ => mul_self_nonneg _

/-- Tokens with components below the bound are not far apart. -/
theorem d2_le (hX : ∀ t d, |X t d| ≤ lim) (i j : Fin 512) : d2 X i j ≤ 256 * (4 * (lim * lim)) := by
  rw [d2_eq_sum]
  have h : ∀ d ∈ Finset.univ, (X i d - X j d) * (X i d - X j d) ≤ 4 * (lim * lim) := fun d _ => by
    have h1 := abs_le.mp (hX i d)
    have h2 := abs_le.mp (hX j d)
    have h3 : |X i d - X j d| ≤ 2 * lim := abs_le.mpr ⟨by linarith [h1.1, h2.2], by linarith [h1.2, h2.1]⟩
    calc (X i d - X j d) * (X i d - X j d) = |X i d - X j d| * |X i d - X j d| := (abs_mul_abs_self _).symm
      _ ≤ (2 * lim) * (2 * lim) := mul_self_le_mul_self (abs_nonneg _) h3
      _ = 4 * (lim * lim) := by ring
  refine (Finset.sum_le_card_nsmul _ _ _ h).trans (le_of_eq ?_)
  rw [Finset.card_univ, Fintype.card_fin, nsmul_eq_mul]; norm_num

theorem dist_nonneg (i j : Fin 512) : 0 ≤ dist X i j := Real.sqrt_nonneg _

/-- A distance is below the weight that the reference puts on the diagonal. -/
theorem dist_lt_diag (hX : ∀ t d, |X t d| ≤ lim) (i j : Fin 512) : dist X i j < diag := by
  rw [dist, max_eq_left (d2_nonneg X i j), Real.sqrt_lt' (by norm_num [diag])]
  have := d2_le X hX i j
  refine lt_of_le_of_lt (add_le_add_left this e12) ?_
  norm_num [diag, lim, e12]

theorem sqrt_arg_nonneg (i j : Fin 512) : 0 ≤ max (d2 X i j) 0 + e12 := add_nonneg (le_max_right _ _) e12_pos.le

/-- The order of the distances is the order of the squared distances. -/
theorem dist_lt_iff (i j k : Fin 512) : dist X i j < dist X i k ↔ d2 X i j < d2 X i k := by
  rw [dist, dist, Real.sqrt_lt_sqrt_iff (sqrt_arg_nonneg X i j), max_eq_left (d2_nonneg X i j),
    max_eq_left (d2_nonneg X i k)]
  exact add_lt_add_iff_right _

end Cert.M

end
-- ==== Proof.M.FourMin.lean ====
/- Four successive minima: the least value, the least above it, and so on, are the four smallest values. -/
module

public import proofs.«01_k».proof.Proof.M.Coe

@[expose] public section

noncomputable section

namespace Cert.M

variable {ι : Type} [Fintype ι] (E : ι → ℝ) (B : ℝ) (σ : Fin 4 → ι)

/-- `σ` lists four places with strictly increasing values, none of the other places having a smaller one. -/
structure Smallest : Prop where
  mono : StrictMono fun k => E (σ k)
  rest : ∀ s, (∀ k, σ k ≠ s) → E (σ 3) ≤ E s

variable {E B σ}

theorem Smallest.le_three (h : Smallest E σ) (k : Fin 4) : E (σ k) ≤ E (σ 3) := h.mono.monotone (Fin.le_last k)

/-- The least value is the first. -/
theorem Smallest.min_first (h : Smallest E σ) : Finset.fold min ⊤ (fun s => (E s : EReal)) Finset.univ = (E (σ 0) : EReal) := by
  refine fold_min_eq (σ 0) rfl fun s => EReal.coe_le_coe_iff.mpr ?_
  by_cases hs : ∃ k, σ k = s
  · obtain ⟨k, rfl⟩ := hs
    exact h.mono.monotone (Fin.zero_le k)
  · exact (h.le_three 0).trans (h.rest s fun k hk => hs ⟨k, hk⟩)

/-- The least of the values above the one listed at `k`, the values not above it replaced by a bound, is the next one. -/
theorem Smallest.min_next (h : Smallest E σ) (hB : ∀ s, E s ≤ B) (k : Fin 3) :
    Finset.fold min ⊤ (fun s => if (E (σ k.castSucc) : EReal) < (E s : EReal) then (E s : EReal) else (B : EReal)) Finset.univ
      = (E (σ k.succ) : EReal) := by
  refine fold_min_eq (σ k.succ) (if_pos (EReal.coe_lt_coe_iff.mpr (h.mono (Fin.castSucc_lt_succ (i := k))))) fun s => ?_
  split
  · rename_i hs
    rw [EReal.coe_le_coe_iff]
    rw [EReal.coe_lt_coe_iff] at hs
    by_cases hk : ∃ i, σ i = s
    · obtain ⟨i, rfl⟩ := hk
      have hi : k.castSucc < i := h.mono.lt_iff_lt.mp hs
      exact h.mono.monotone (Fin.castSucc_lt_iff_succ_le.mp hi)
    · exact (h.le_three _).trans (h.rest s fun i hi => hk ⟨i, hi⟩)
  · exact EReal.coe_le_coe_iff.mpr (hB _)

end Cert.M

end
-- ==== Proof.M.Nearest.lean ====
/- The four nearest tokens. One program orders the tokens by distance, a weight added at the token itself; the other
   orders them by squared distance up to a constant, a bound put in at the token itself. Both orders are the same. -/
module

public import proofs.«01_k».proof.Proof.M.Spec
public import proofs.«01_k».proof.Proof.M.FourMin

@[expose] public section

noncomputable section

namespace Cert.M

variable (X : Fin 512 → Fin 256 → ℝ) (j : Fin 512)

/-- The distances from token `j`, the token itself put far away. -/
def far (s : Fin 512) : ℝ := dist X j s + if j = s then diag else 0

/-- The squared distances from token `j` less its squared norm, the token itself put far away. -/
def near (s : Fin 512) : ℝ := if s = j then big else sq X s - 2 * gram X s j

/-- The mean distance to the four listed tokens. -/
def mean4 (σ : Fin 4 → Fin 512) : ℝ := (dist X j (σ 0) + dist X j (σ 1) + dist X j (σ 2) + dist X j (σ 3)) / 4

variable {X j}

theorem near_of_ne {s : Fin 512} (h : s ≠ j) : near X j s = d2 X j s - sq X j := by
  rw [near, if_neg h, d2, gram_comm X j s]; ring

theorem near_lt_big (hX : ∀ t d, |X t d| ≤ lim) {s : Fin 512} (h : s ≠ j) : near X j s < big := by
  rw [near_of_ne h]
  have h1 := d2_le X hX j s
  have h2 := sq_nonneg X j
  have h3 : 256 * (4 * (lim * lim)) < big := by norm_num [lim, big]
  linarith

theorem near_le_big (hX : ∀ t d, |X t d| ≤ lim) (s : Fin 512) : near X j s ≤ big := by
  by_cases h : s = j
  · rw [near, if_pos h]
  · exact (near_lt_big hX h).le

theorem far_of_ne {s : Fin 512} (h : s ≠ j) : far X j s = dist X j s := by
  rw [far, if_neg (Ne.symm h), add_zero]

theorem far_lt_self (hX : ∀ t d, |X t d| ≤ lim) {s : Fin 512} (h : s ≠ j) : far X j s < far X j j := by
  rw [far_of_ne h, far, if_pos rfl]
  have h1 := dist_lt_diag X hX j s
  have h2 := dist_nonneg X j j
  linarith

/-- The two orders agree. -/
theorem near_lt_iff (hX : ∀ t d, |X t d| ≤ lim) (s s' : Fin 512) : near X j s < near X j s' ↔ far X j s < far X j s' := by
  by_cases h : s = j
  · subst h
    have h1 : ¬ near X s s < near X s s' := by
      rw [show near X s s = big from if_pos rfl]; exact not_lt.mpr (near_le_big hX s')
    refine iff_of_false h1 ?_
    by_cases h' : s' = s
    · subst h'; exact lt_irrefl _
    · exact not_lt.mpr (far_lt_self hX h').le
  · by_cases h' : s' = j
    · subst h'
      refine iff_of_true ?_ (far_lt_self hX h)
      rw [show near X s' s' = big from if_pos rfl]; exact near_lt_big hX h
    · rw [near_of_ne h, near_of_ne h', far_of_ne h, far_of_ne h', dist_lt_iff]
      exact sub_lt_sub_iff_right _

variable {σ : Fin 4 → Fin 512}

theorem smallest_near (hX : ∀ t d, |X t d| ≤ lim) (h : Smallest (far X j) σ) : Smallest (near X j) σ where
  mono _ _ hk := (near_lt_iff hX _ _).mpr (h.mono hk)
  rest s hs := not_lt.mp fun hlt => absurd ((near_lt_iff hX _ _).mp hlt) (not_lt.mpr (h.rest s hs))

/-- The token itself is not among its four nearest ones. -/
theorem ne_self (hX : ∀ t d, |X t d| ≤ lim) (h : Smallest (far X j) σ) (hp : ∃ p, ∀ k, σ k ≠ p) (k : Fin 4) : σ k ≠ j := by
  intro hk
  obtain ⟨p, hp⟩ := hp
  have h1 : far X j j ≤ far X j p := (congrArg (far X j) hk).symm.le.trans ((h.le_three k).trans (h.rest p hp))
  refine absurd (far_lt_self hX (s := p) fun e => hp k (hk.trans e.symm)) (not_lt.mpr h1)

/-- The squared distance to a listed token, from its place in the order. -/
theorem near_add_sq {s : Fin 512} (h : s ≠ j) : √(max (near X j s + sq X j) 0 + e12) = dist X j s := by
  rw [near_of_ne h, sub_add_cancel, dist]

end Cert.M

end
-- ==== Proof.M.Norm.lean ====
/- The layer normalisation of the features and the context followed by a linear map, and the cosine similarity of the
   features, in the two forms in which the programs compute them. -/
module

public import proofs.«01_k».proof.Proof.M.Spec
public import Mathlib.Algebra.BigOperators.Fin
public import Mathlib.Tactic.FieldSimp

@[expose] public section

noncomputable section

namespace Cert.M

open scoped BigOperators

/-- A sum over all components is the sum over the features and the sum over the context. -/
theorem sum_split {α : Type} [AddCommMonoid α] (f : Fin 772 → α) :
    ∑ k, f k = ∑ a : Fin 260, f ⟨a.val, by omega⟩ + ∑ b : Fin 512, f ⟨260 + b.val, by omega⟩ :=
  Fin.sum_univ_add (a := 260) (b := 512) f

/-- A sum over the features without the one. -/
theorem sum_feat {α : Type} [AddCommMonoid α] (f : Fin 259 → α) :
    ∑ k, f k = ∑ d : Fin 256, f ⟨d.val, by omega⟩ + (f 256 + f 257 + f 258) := by
  refine (Fin.sum_univ_add (a := 256) (b := 3) f).trans ?_
  rw [Fin.sum_univ_three]
  rfl

variable (X : Fin 512 → Fin 256 → ℝ) (kn : Fin 512 → ℝ) (t : Fin 512)

theorem full_feat (a : Fin 260) : full X kn t ⟨a.val, by omega⟩ = feat X kn t a := by
  rw [full, dif_pos a.isLt]

theorem full_ctx (b : Fin 512) : full X kn t ⟨260 + b.val, by omega⟩ = ctx X b := by
  rw [full, dif_neg (by simp)]
  congr 1
  exact Fin.ext (by simp)

/-- The mean of the components, -/
def muF : ℝ := (∑ k, full X kn t k) / 772

/-- their variance, -/
def varF : ℝ := (∑ k, (full X kn t k - muF X kn t) * (full X kn t k - muF X kn t)) / 772

/-- and their guarded standard deviation. -/
def sdF : ℝ := √(varF X kn t + e5)

theorem varF_nonneg : 0 ≤ varF X kn t :=
  div_nonneg (Finset.sum_nonneg fun _ _ => mul_self_nonneg _) (by norm_num)

theorem sdF_pos : 0 < sdF X kn t := Real.sqrt_pos.mpr (add_pos_of_nonneg_of_pos (varF_nonneg X kn t) e5_pos)

theorem muF_split : (∑ a, feat X kn t a + ∑ b, ctx X b) * (1 / 772) = muF X kn t := by
  rw [muF, sum_split]
  simp only [full_feat, full_ctx]
  rw [mul_one_div]

/-- The variance as the mean square less the squared mean. -/
theorem varF_split : max ((∑ a, feat X kn t a * feat X kn t a + ∑ b, ctx X b * ctx X b) * (1 / 772) - muF X kn t * muF X kn t) 0
    = varF X kn t := by
  have h : (∑ a, feat X kn t a * feat X kn t a + ∑ b, ctx X b * ctx X b) = ∑ k, full X kn t k * full X kn t k := by
    rw [sum_split fun k => full X kn t k * full X kn t k]
    simp only [full_feat, full_ctx]
  have hs : ∑ k, full X kn t k = 772 * muF X kn t := by rw [muF]; ring
  have hv : varF X kn t = (∑ k, full X kn t k * full X kn t k) * (1 / 772) - muF X kn t * muF X kn t := by
    have e : ∀ k, (full X kn t k - muF X kn t) * (full X kn t k - muF X kn t)
        = full X kn t k * full X kn t k - 2 * muF X kn t * full X kn t k + muF X kn t * muF X kn t := fun k => by ring
    rw [varF]
    simp only [e]
    rw [Finset.sum_add_distrib, Finset.sum_sub_distrib, ← Finset.mul_sum, hs, Finset.sum_const, Finset.card_univ, Fintype.card_fin,
      nsmul_eq_mul]
    push_cast
    ring
  rw [h, ← hv, max_eq_left (varF_nonneg X kn t)]

variable (G : Fin 772 → ℝ) (W : Fin 772 → Fin 256 → ℝ) (o : Fin 256)

/-- The normalised components, scaled by `G`, through the linear map `W`. -/
def core : ℝ := ∑ k, (full X kn t k - muF X kn t) / sdF X kn t * G k * W k o

/-- The same with the mean and the standard deviation taken out of the sum. -/
theorem core_split : (sdF X kn t)⁻¹ * (∑ a : Fin 260, feat X kn t a * G ⟨a.val, by omega⟩ * W ⟨a.val, by omega⟩ o
      + ∑ b : Fin 512, ctx X b * G ⟨260 + b.val, by omega⟩ * W ⟨260 + b.val, by omega⟩ o)
      - muF X kn t * (sdF X kn t)⁻¹ * ∑ k, G k * W k o
    = core X kn t G W o := by
  have h := sum_split fun k => full X kn t k * G k * W k o
  simp only [full_feat, full_ctx] at h
  rw [← h, core, Finset.mul_sum, Finset.mul_sum, ← Finset.sum_sub_distrib]
  exact Finset.sum_congr rfl fun k _ => by rw [div_eq_mul_inv]; ring

/-- The guarded norm of the features without the one. -/
def len : ℝ := √(sq X t + cdist X t * cdist X t + kn t * kn t + nrm X t * nrm X t) + e8

theorem len_pos : 0 < len X kn t := add_pos_of_nonneg_of_pos (Real.sqrt_nonneg _) e8_pos

theorem len_arg_nonneg : 0 ≤ sq X t + cdist X t * cdist X t + kn t * kn t + nrm X t * nrm X t :=
  add_nonneg (add_nonneg (add_nonneg (sq_nonneg X t) (mul_self_nonneg _)) (mul_self_nonneg _)) (mul_self_nonneg _)

/-- The cosine similarity of the features of two tokens. -/
def sim (i j : Fin 512) : ℝ :=
  1 / len X kn i * (1 / len X kn j)
    * (gram X i j + cdist X i * cdist X j + kn i * kn j + nrm X i * nrm X j)

/-- The features without the one. -/
def feat9 (k : Fin 259) : ℝ := feat X kn t ⟨k.val, by omega⟩

theorem sum_feat9 (i j : Fin 512) : ∑ k, feat9 X kn i k * feat9 X kn j k
    = gram X i j + cdist X i * cdist X j + kn i * kn j + nrm X i * nrm X j := by
  have h0 : ∀ t (d : Fin 256), feat9 X kn t ⟨d.val, by omega⟩ = X t d := fun t d => by
    rw [feat9, feat, dif_pos d.isLt]
  have h1 : ∀ t, feat9 X kn t 256 = cdist X t := fun t => rfl
  have h2 : ∀ t, feat9 X kn t 257 = kn t := fun t => rfl
  have h3 : ∀ t, feat9 X kn t 258 = nrm X t := fun t => rfl
  rw [sum_feat, h1, h2, h3, h1, h2, h3]
  simp only [h0]
  rw [gram]
  ring

theorem len_eq : √(∑ k, feat9 X kn t k * feat9 X kn t k) + e8 = len X kn t := by
  rw [sum_feat9]; rfl

theorem sim_eq (i j : Fin 512) : ∑ k, feat9 X kn i k / len X kn i * (feat9 X kn j k / len X kn j) = sim X kn i j := by
  rw [sim, ← sum_feat9, Finset.mul_sum]
  exact Finset.sum_congr rfl fun k _ => by ring

end Cert.M

end
-- ==== Proof.RI.Read.lean ====
/- What the reference computes, for one batch entry of tokens with real components, as real numbers. -/
module

public import proofs.«01_k».proof.Proof.RI.TopK
public import proofs.«01_k».proof.Proof.M.Nearest
public import proofs.«01_k».proof.Proof.M.Norm

@[expose] public section

set_option maxRecDepth 16384

noncomputable section

namespace Cert.RI

open Cert.ReferenceIdeal Cert.ReferenceIdeal.Gen Cert.ReferenceIdeal.Read Idealize.ShloMosaic Cert.M
open scoped BigOperators

variable {x : (⟨S8x512x256, .f32⟩ : BufTy).Contents (Elt Ideal)} {b : Fin 8} {X : Fin 512 → Fin 256 → ℝ}

/-- Batch entry `b` of `x` holds the real numbers `X`. -/
abbrev Holds (x : (⟨S8x512x256, .f32⟩ : BufTy).Contents (Elt Ideal)) (b : Fin 8) (X : Fin 512 → Fin 256 → ℝ) : Prop :=
  ∀ t d, x (ix3 b t d) = ((X t d : ℝ) : EReal)

theorem diag_at (t s : Fin 512) :
    val_main_v25 (F := Ideal) (ix3 b t s) = ((if t = s then M.diag else 0 : ℝ) : EReal) := by
  pointwise [val_main_v25, val_main_v24, val_main_v22, val_main_v21, val_main_v20, val_main_v19, val_main_v16, val_main_v18,
    val_main_c, val_main_v17, val_main_v23, val_main_cst_3]
  rw [show IntOp.addi (BitVec.ofNat 32 t.val) 0#32 = BitVec.ofNat 32 t.val from BitVec.add_zero _, word_eq, ofBits_diag]
  show (((BitVec.ofBool (decide (t = s))).toNat : ℝ) : EReal) * _ = _
  rw [← EReal.coe_mul]
  by_cases h : t = s <;> simp [h]

variable (hx : Holds x b X)
include hx

theorem sq_at (t : Fin 512) : val_main_v1 x (ix2 b t) = ((M.sq X t : ℝ) : EReal) := by
  pointwise [val_main_v1, val_main_v0, val_main_cst]
  simp only [hx t _, ← EReal.coe_mul, ← coe_sum]
  rfl

theorem gram_at (t s : Fin 512) : val_main_v7 x (ix3 b t s) = ((gram X t s : ℝ) : EReal) := by
  pointwise [val_main_v7]
  simp only [hx t _, hx s _, ← EReal.coe_mul, ← coe_sum]
  rfl

theorem dist_at (t s : Fin 512) : val_main_v15 x (ix3 b t s) = ((M.dist X t s : ℝ) : EReal) := by
  pointwise [val_main_v15, val_main_v14, val_main_v12, val_main_v10, val_main_v6, val_main_v4, val_main_v2, val_main_v5,
    val_main_v3, val_main_v9, val_main_v8, val_main_cst_0, val_main_v11, val_main_cst_1, val_main_v13, val_main_cst_2]
  rw [sq_at hx, sq_at hx, gram_at hx, ofBits_two, ofBits_e12, ← EReal.coe_mul, ← EReal.coe_add, ← EReal.coe_sub, max_real_zero,
    ← EReal.coe_add]
  exact sqrt_real (sqrt_arg_nonneg X t s)

/-- The negated distances, the token itself put far away. -/
theorem far_at (t s : Fin 512) : val_main_v27 x (ix3 b t s) = ((-far X t s : ℝ) : EReal) := by
  pointwise [val_main_v27, val_main_v26]
  rw [dist_at hx, diag_at, ← EReal.coe_add, ← EReal.coe_neg, far]

/-- The four nearest tokens by the reference's order. -/
def nearest (x : (⟨S8x512x256, .f32⟩ : BufTy).Contents (Elt Ideal)) (b : Fin 8) (t : Fin 512) (k : Fin 4) : Fin 512 :=
  order (val_main_v27 x) b t ⟨k.val, by omega⟩

theorem values_at (t : Fin 512) (k : Fin 4) :
    val_main_values x (ix3 b t k) = ((-far X t (nearest x b t k) : ℝ) : EReal) := by
  rw [← far_at hx t (nearest x b t k)]
  exact topK_at (val_main_v27 x) b t sliceFits_S8x512x512_S8x512x4 k

omit hx in
theorem nearest_miss (t : Fin 512) : ∃ p, ∀ k, nearest x b t k ≠ p := by
  refine ⟨order (val_main_v27 x) b t ⟨4, by omega⟩, fun k h => ?_⟩
  have := congrArg Fin.val (order_injective _ b t h)
  have := k.isLt
  simp only at *
  omega

/-- Where the reference's four values decrease strictly, they belong to the four smallest distances. -/
theorem smallest_far (t : Fin 512)
    (h : ∀ k : Fin 3, val_main_values x (ix3 b t k.succ) < val_main_values x (ix3 b t k.castSucc)) :
    Smallest (far X t) (nearest x b t) where
  mono := by
    refine Fin.strictMono_iff_lt_succ.mpr fun k => ?_
    have := h k
    rw [values_at hx, values_at hx, EReal.coe_lt_coe_iff] at this
    exact neg_lt_neg_iff.mp this
  rest s hs := by
    obtain ⟨p, rfl⟩ := order_surjective (val_main_v27 x) b t s
    have hp : (⟨3, by omega⟩ : Fin 512) < p := by
      by_contra hlt
      have hlt' : p.val < 4 := by
        have := Fin.not_lt.mp hlt
        exact Nat.lt_succ_of_le this
      exact hs ⟨p.val, hlt'⟩ rfl
    have := order_antitone (val_main_v27 x) b t hp
    rw [far_at hx, far_at hx, EReal.coe_le_coe_iff] at this
    exact neg_le_neg_iff.mp this

/-- The mean distance to the four nearest tokens. -/
theorem knn_at (hX : ∀ t d, |X t d| ≤ lim) (t : Fin 512)
    (h : ∀ k : Fin 3, val_main_values x (ix3 b t k.succ) < val_main_values x (ix3 b t k.castSucc)) (o : Fin 1) :
    val_main_v32 x (ix3 b t o) = ((mean4 X t (nearest x b t) : ℝ) : EReal) := by
  have hs := smallest_far hx t h
  have hn := ne_self hX hs (nearest_miss t)
  pointwise [val_main_v32, val_main_v31, val_main_v29, val_main_v28, val_main_cst_4, val_main_v30, val_main_cst_5]
  simp only [values_at hx, far_of_ne (hn _), ← coe_sum, ofBits_four]
  rw [div_real _ (by norm_num), ← EReal.coe_neg, Fin.sum_univ_four, mean4]
  congr 1
  ring

theorem mean_at (o : Fin 1) (d : Fin 256) : val_main_v36 x (ix3 b o d) = ((M.mean X d : ℝ) : EReal) := by
  pointwise [val_main_v36, val_main_v34, val_main_v33, val_main_cst_6, val_main_v35, val_main_cst_7]
  simp only [hx _ d, ← coe_sum, ofBits_n512]
  exact div_real _ (by norm_num)

theorem cdist_at (t : Fin 512) (o : Fin 1) : val_main_v44 x (ix3 b t o) = ((M.cdist X t : ℝ) : EReal) := by
  pointwise [val_main_v44, val_main_v43, val_main_v41, val_main_v40, val_main_v39, val_main_v38, val_main_v37, val_main_cst_8,
    val_main_v42, val_main_cst_9]
  simp only [hx t _, mean_at hx, ofBits_e12, ← EReal.coe_sub, ← EReal.coe_mul, ← coe_sum, ← EReal.coe_add]
  exact sqrt_real (add_nonneg (Finset.sum_nonneg fun _ _ => mul_self_nonneg _) e12_pos.le)

theorem nrm_at (t : Fin 512) (o : Fin 1) : val_main_v50 x (ix3 b t o) = ((M.nrm X t : ℝ) : EReal) := by
  pointwise [val_main_v50, val_main_v49, val_main_v47, val_main_v46, val_main_v45, val_main_cst_10, val_main_v48, val_main_cst_11]
  simp only [hx t _, ofBits_e12, ← EReal.coe_mul, ← coe_sum, ← EReal.coe_add]
  exact sqrt_real (add_nonneg (sq_nonneg X t) e12_pos.le)

theorem meanRow_at (d : Fin 256) : val_main_v56 x (ix2 b d) = ((M.mean X d : ℝ) : EReal) := by
  pointwise [val_main_v56, val_main_v54, val_main_cst_13, val_main_v55, val_main_cst_14]
  simp only [hx _ d, ← coe_sum, ofBits_n512]
  exact div_real _ (by norm_num)

omit hx in
/-- A count less the integer zero. -/
theorem sub_zero_word (r : ℝ) : (r : EReal) - FloatOps.sitofp (F := Ideal) .f32 0#32 = (r : EReal) := by
  show (r : EReal) - (((0#32 : BitVec 32).toInt : ℝ) : EReal) = r
  rw [← EReal.coe_sub]
  simp

theorem var_at (d : Fin 256) : val_main_v57 x (ix2 b d) = ((dev X d / 512 : ℝ) : EReal) := by
  pointwise [val_main_v57, val_main_call0_v12, val_main_call0_v8, val_main_call0_cst_1, val_main_call0_v7, val_main_c_15,
    val_main_call0_cst_3, val_main_call0_v11, val_main_call0_v9, val_main_call0_v6, val_main_call0_v5, val_main_call0_v4,
    val_main_call0_v3, val_main_call0_v1, val_main_call0_v0, val_main_call0_cst, val_main_call0_v2, val_main_call0_cst_0,
    val_main_call0_cst_2, val_main_call0_v10, val_main_call0_call0_v1, val_main_call0_call0_v0, val_main_call0_cst_4]
  rw [ofBits_n512, sub_zero_word, if_pos (EReal.coe_pos.mpr (by norm_num))]
  simp only [hx _ d, ← coe_sum, div_real _ (show (512 : ℝ) ≠ 0 by norm_num), ← EReal.coe_sub, ← EReal.coe_mul]
  rfl

/-- The context. -/
theorem ctx_at (j : Fin 512) : val_main_v61 x (ix2 b j) = ((ctx X j : ℝ) : EReal) := by
  pointwise [val_main_v61, val_main_v60, val_main_v59, val_main_v58, val_main_cst_16]
  rw [ctx]
  split
  · exact meanRow_at hx _
  · rw [var_at hx, ofBits_e6, ← EReal.coe_add]
    exact sqrt_real (add_nonneg (div_nonneg (dev_nonneg X _) (by norm_num)) e6_pos.le)

variable {kn : Fin 512 → ℝ} (hk : ∀ t o, val_main_v32 x (ix3 b t o) = ((kn t : ℝ) : EReal))
include hk

theorem feat9_at (t : Fin 512) (j : Fin 259) : val_main_v51 x (ix3 b t j) = ((feat9 X kn t j : ℝ) : EReal) := by
  have hj := j.isLt
  pointwise [val_main_v51]
  rw [feat9, feat]
  simp only
  by_cases h0 : j.val < 256
  · rw [dif_pos h0, dif_pos h0, hx]
  rw [dif_neg h0, dif_neg h0]
  by_cases h1 : j.val = 256
  · rw [dif_pos (by omega), if_pos h1, cdist_at hx]
  rw [dif_neg (by omega), if_neg h1]
  by_cases h2 : j.val = 257
  · rw [dif_pos (by omega), if_pos h2, hk]
  · rw [dif_neg (by omega), if_neg h2]
    refine (nrm_at hx t _).trans ?_
    rw [if_pos (by omega)]

/-- The features. -/
theorem feat_at (t : Fin 512) (j : Fin 260) : val_main_v53 x (ix3 b t j) = ((feat X kn t j : ℝ) : EReal) := by
  have hj := j.isLt
  pointwise [val_main_v53, val_main_v52, val_main_cst_12]
  by_cases h : j.val < 259
  · rw [dif_pos h, feat9_at hx hk]
    rfl
  · rw [dif_neg h, feat, dif_neg (by omega), if_neg (by omega), if_neg (by omega), if_neg (by omega)]
    rfl

theorem full_at (t : Fin 512) (j : Fin 772) : val_main_v64 x (ix3 b t j) = ((full X kn t j : ℝ) : EReal) := by
  pointwise [val_main_v64, val_main_v63, val_main_v62]
  rw [full]
  split
  · exact feat_at hx hk t _
  · exact ctx_at hx _

theorem muF_at (t : Fin 512) (o : Fin 1) : val_main_v68 x (ix3 b t o) = ((muF X kn t : ℝ) : EReal) := by
  pointwise [val_main_v68, val_main_v66, val_main_v65, val_main_cst_17, val_main_v67, val_main_cst_18]
  simp only [full_at hx hk, ← coe_sum, ofBits_n772]
  exact div_real _ (by norm_num)

theorem varF_at (t : Fin 512) (o : Fin 1) : val_main_v69 x (ix3 b t o) = ((varF X kn t : ℝ) : EReal) := by
  pointwise [val_main_v69, val_main_call1_v13, val_main_call1_v8, val_main_call1_cst_1, val_main_call1_v7, val_main_c_19,
    val_main_call1_cst_3, val_main_call1_v12, val_main_call1_v10, val_main_call1_v9, val_main_call1_v6, val_main_call1_v5,
    val_main_call1_v4, val_main_call1_v3, val_main_call1_v1, val_main_call1_v0, val_main_call1_cst, val_main_call1_v2,
    val_main_call1_cst_0, val_main_call1_cst_2, val_main_call1_v11, val_main_call1_call0_v1, val_main_call1_call0_v0,
    val_main_call1_cst_4]
  rw [ofBits_n772, sub_zero_word, if_pos (EReal.coe_pos.mpr (by norm_num))]
  simp only [full_at hx hk, ← coe_sum, div_real _ (show (772 : ℝ) ≠ 0 by norm_num), ← EReal.coe_sub, ← EReal.coe_mul]
  rfl

theorem normed_at (t : Fin 512) (k : Fin 772) :
    val_main_v76 x (ix3 b t k) = (((full X kn t k - muF X kn t) / sdF X kn t : ℝ) : EReal) := by
  pointwise [val_main_v76, val_main_v71, val_main_v70, val_main_v75, val_main_v74, val_main_v73, val_main_v72, val_main_cst_20]
  rw [full_at hx hk, muF_at hx hk, varF_at hx hk, ofBits_e5, ← EReal.coe_add, ← EReal.coe_sub,
    sqrt_real (add_nonneg (varF_nonneg X kn t) e5_pos.le)]
  exact div_real _ (sdF_pos X kn t).ne'

/-- The second computation of the features is the first. -/
theorem feat9_at' (t : Fin 512) (j : Fin 259) : val_main_v149 x (ix3 b t j) = ((feat9 X kn t j : ℝ) : EReal) := by
  rw [show val_main_v149 x = val_main_v51 x from rfl]
  exact feat9_at hx hk t j

theorem len_at (t : Fin 512) (o : Fin 1) : val_main_v155 x (ix3 b t o) = ((len X kn t : ℝ) : EReal) := by
  pointwise [val_main_v155, val_main_v153, val_main_v152, val_main_v151, val_main_v150, val_main_cst_39, val_main_v154, val_main_cst_40]
  simp only [feat9_at' hx hk, ← EReal.coe_mul, ← coe_sum, ofBits_e8]
  rw [sqrt_real (Finset.sum_nonneg fun _ _ => mul_self_nonneg _), ← EReal.coe_add, len_eq]

/-- The similarity. -/
theorem sim_at (i j : Fin 512) : val_main_v158 x (ix3 b i j) = ((M.sim X kn i j : ℝ) : EReal) := by
  pointwise [val_main_v158, val_main_v157, val_main_v156]
  simp only [feat9_at' hx hk, len_at hx hk, div_real _ (len_pos X kn _).ne', ← EReal.coe_mul, ← coe_sum]
  rw [sim_eq]

variable {g be : (⟨S772, .f32⟩ : BufTy).Contents (Elt Ideal)} {w1 : (⟨S772x256, .f32⟩ : BufTy).Contents (Elt Ideal)}
  {b1 b2 : (⟨S256, .f32⟩ : BufTy).Contents (Elt Ideal)} {w2 : (⟨S256x256, .f32⟩ : BufTy).Contents (Elt Ideal)}
  {G : Fin 772 → ℝ} {W : Fin 772 → Fin 256 → ℝ} (hg : ∀ k, g (ix1 k) = ((G k : ℝ) : EReal))
  (hw : ∀ k o, w1 (ix2 k o) = ((W k o : ℝ) : EReal))
include hg hw

/-- The layer normalisation through the first linear map. -/
theorem pre_at (t : Fin 512) (n : Fin 256) : val_main_v86 x g be w1 b1 (ix3 b t n)
    = ((core X kn t G W n : ℝ) : EReal) + (∑ k, be (ix1 k) * w1 (ix2 k n) + b1 (ix1 n)) := by
  pointwise [val_main_v86, val_main_v83, val_main_v82, val_main_v79, val_main_v78, val_main_v77, val_main_v81, val_main_v80,
    val_main_v85, val_main_v84]
  simp only [normed_at hx hk, hg, hw, ← EReal.coe_mul, add_mul_real]
  rw [Finset.sum_add_distrib, ← coe_sum, add_assoc]
  rfl

/-- The embedding of a token. -/
theorem embed_at (t : Fin 512) (c : Fin 256) : val_main_v97 x g be w1 b1 w2 b2 (ix3 b t c)
    = embed (fun n => ((core X kn t G W n : ℝ) : EReal) + (∑ k, be (ix1 k) * w1 (ix2 k n) + b1 (ix1 n)))
        (fun n => w2 (ix2 n c)) (b2 (ix1 c)) := by
  pointwise [val_main_v97, val_main_v94, val_main_v93, val_main_v88, val_main_v87, val_main_cst_21, val_main_v92, val_main_v91,
    val_main_v89, val_main_v90, val_main_cst_22, val_main_v96, val_main_v95]
  simp only [pre_at hx hk hg hw, EReal.neg_mul, Ideal.erfc_neg]
  rfl

end Cert.RI

end
-- ==== Proof.Pre.lean ====
/- What the precondition says: the tokens are real and bounded, the scale and the first linear map are real, and the
   reference's four values decrease strictly in every row. -/
module

public import proofs.«01_k».proof.Defs
public import proofs.«01_k».proof.Proof.Gen.Pre_inputs_ok
public import proofs.«01_k».proof.Proof.RI.Read

@[expose] public section

set_option maxRecDepth 16384

noncomputable section

namespace Cert.Pre

open Cert.Pre_inputs_ok Idealize.ShloMosaic Cert.M

variable {x : FVec Ideal S8x512x256 .f32} {g be : FVec Ideal S772 .f32} {w1 : FVec Ideal S772x256 .f32} {b1 b2 : FVec Ideal S256 .f32}
  {w2 : FVec Ideal S256x256 .f32}

open Facts

/-- The reference's four largest negated distances of every row. -/
def vals (x : FVec Ideal S8x512x256 .f32) : FVec Ideal S8x512x4 .f32 := Cert.ReferenceIdeal.Read.val_main_values (F := Ideal) x

/-- Is each of a row's four values smaller than the one before it? -/
def distinct (v : FVec Ideal S8x512x4 .f32) : IVec S8x512x3 1 :=
  cmpf .olt (extractStridedSlice S8x512x3 ![0, 0, 1] v slices_S8x512x4_S8x512x3_0_0_1)
    (extractStridedSlice S8x512x3 ![0, 0, 0] v slices_S8x512x4_S8x512x3_0_0_0)

/-- Is each token's entry at most ten million in size? -/
def bounded (x : FVec Ideal S8x512x256 .f32) : IVec S8x512x256 1 :=
  cmpf .ole (Host.absf x) (broadcastInDim S8x512x256 ![] bcast_S_S8x512x256 (constant S_ .f32 0x4B189680#32))

/-- Is each entry of the scale a real number? -/
def scaleReal (g : FVec Ideal S772 .f32) : IVec S772 1 :=
  cmpf .olt (Host.absf g) (broadcastInDim S772 ![] bcast_S_S772 (constant S_ .f32 0x7F800000#32))

/-- Is each entry of the first map a real number? -/
def mapReal (w1 : FVec Ideal S772x256 .f32) : IVec S772x256 1 :=
  cmpf .olt (Host.absf w1) (broadcastInDim S772x256 ![] bcast_S_S772x256 (constant S_ .f32 0x7F800000#32))

/-- The precondition is these four tests laid end to end. -/
theorem fn_eq : fn x g be w1 b1 w2 b2 = concatenate S1259268 0
    [⟨S12288, shapeCast S12288 (distinct (vals x)) shapeCasts_S8x512x3_S12288⟩,
      ⟨S1048576, shapeCast S1048576 (bounded x) shapeCasts_S8x512x256_S1048576⟩,
      ⟨S772, scaleReal g⟩, ⟨S197632, shapeCast S197632 (mapReal w1) shapeCasts_S772x256_S197632⟩]
    concatenates_S12288_S1048576_S772_S197632_S1259268_d0 := rfl

/-- Where four arrays laid end to end are all ones, each is. -/
theorem parts {p : IVec S12288 1} {q : IVec S1048576 1} {r : IVec S772 1} {s : IVec S197632 1}
    (h : concatenate S1259268 0 [⟨S12288, p⟩, ⟨S1048576, q⟩, ⟨S772, r⟩, ⟨S197632, s⟩]
      concatenates_S12288_S1048576_S772_S197632_S1259268_d0 = fun _ => 1#1) :
    (∀ n : Fin 12288, p (ix1 n) = 1#1) ∧ (∀ n : Fin 1048576, q (ix1 n) = 1#1) ∧ (∀ n : Fin 772, r (ix1 n) = 1#1)
      ∧ ∀ n : Fin 197632, s (ix1 n) = 1#1 := by
  refine ⟨fun n => ?_, fun n => ?_, fun n => ?_, fun n => ?_⟩
  · have h1 := congrFun h (ix1 (⟨n.val, by omega⟩ : Fin 1259268))
    pointwise at h1
    exact h1
  · have h1 := congrFun h (ix1 (⟨12288 + n.val, by omega⟩ : Fin 1259268))
    pointwise at h1
    exact h1
  · have h1 := congrFun h (ix1 (⟨1060864 + n.val, by omega⟩ : Fin 1259268))
    pointwise at h1
    rw [dif_neg (by omega), dif_neg (by omega), dif_pos (by omega)] at h1
    have e : (⟨1060864 + n.val - 12288 - 1048576, by omega⟩ : Fin 772) = n := Fin.ext (by simp only; omega)
    rwa [e] at h1
  · have h1 := congrFun h (ix1 (⟨1061636 + n.val, by omega⟩ : Fin 1259268))
    pointwise at h1
    rw [dif_neg (by omega), dif_neg (by omega), dif_neg (by omega)] at h1
    have e : (⟨1061636 + n.val - 12288 - 1048576 - 772, by omega⟩ : Fin 197632) = n := Fin.ext (by simp only; omega)
    rwa [e] at h1

/-- An array is all ones where a regrouping of it is. -/
theorem of_regroup {s : Shape} {n : ℕ} {x : IVec s 1} (h : s.ShapeCasts ⟨1, ![n]⟩)
    (hx : ∀ i : Fin n, shapeCast ⟨1, ![n]⟩ x h (ix1 i) = 1#1) (i : s.Idx) : x i = 1#1 := by
  obtain ⟨j, rfl⟩ := (Shape.reshapeEquiv h).surjective i
  have e : j = ix1 (j 0) := by
    funext a
    match a with
    | 0 => rfl
  rw [e]
  exact hx (j 0)

/-- A test's bit is one where what it tests holds. -/
theorem holds {p : Prop} [Decidable p] (h : BitVec.ofBool (decide p) = 1#1) : p := by
  by_contra hp
  rw [decide_eq_false hp] at h
  exact absurd h (by decide)

/-- Each of a row's four values is smaller than the one before it. -/
theorem drops (H : fn x g be w1 b1 w2 b2 = fun _ => 1#1) (b : Fin 8) (t : Fin 512) (k : Fin 3) :
    vals x (ix3 b t k.succ) < vals x (ix3 b t k.castSucc) := by
  rw [fn_eq] at H
  have h1 := of_regroup _ (parts H).1 (ix3 b t k)
  pointwise [distinct] at h1
  have e : (⟨1 + k.val, by omega⟩ : Fin 4) = k.succ := Fin.ext (Nat.add_comm _ _)
  rw [e] at h1
  exact holds h1

/-- The tokens' entries are bounded. -/
theorem bound (H : fn x g be w1 b1 w2 b2 = fun _ => 1#1) (b : Fin 8) (t : Fin 512) (d : Fin 256) :
    max (x (ix3 b t d)) (-x (ix3 b t d)) ≤ (lim : EReal) := by
  rw [fn_eq] at H
  have h1 := of_regroup _ (parts H).2.1 (ix3 b t d)
  pointwise [bounded] at h1
  rw [ofBits_lim] at h1
  exact holds h1

/-- The scale is real. -/
theorem scale (H : fn x g be w1 b1 w2 b2 = fun _ => 1#1) (k : Fin 772) : max (g (ix1 k)) (-g (ix1 k)) < ⊤ := by
  rw [fn_eq] at H
  have h1 := (parts H).2.2.1 k
  pointwise [scaleReal] at h1
  rw [ofBits_inf] at h1
  exact holds h1

/-- The first map is real. -/
theorem weights (H : fn x g be w1 b1 w2 b2 = fun _ => 1#1) (k : Fin 772) (o : Fin 256) :
    max (w1 (ix2 k o)) (-w1 (ix2 k o)) < ⊤ := by
  rw [fn_eq] at H
  have h1 := of_regroup _ (parts H).2.2.2 (ix2 k o)
  pointwise [mapReal] at h1
  rw [ofBits_inf] at h1
  exact holds h1

end Cert.Pre

end
-- ==== Proof.KI.Read.lean ====
/- What a grid point of the kernel computes, over a block of tokens with real components, as real numbers. -/
module

public import proofs.«01_k».proof.Proof.KI.Vals
public import proofs.«01_k».proof.Proof.M.Nearest
public import proofs.«01_k».proof.Proof.M.Norm
public import Idealize.ShloMosaic.Lib.Pointwise

@[expose] public section

set_option maxRecDepth 16384

noncomputable section

namespace Cert.KI

open Cert.KernelIdeal Cert.KernelIdeal.Gen Idealize.ShloMosaic Cert.M
open scoped BigOperators

variable {x : Vec Ideal S1x512x256 .f32} {X : Fin 512 → Fin 256 → ℝ}

/-- The block `x` holds the real numbers `X`. -/
abbrev Holds (x : Vec Ideal S1x512x256 .f32) (X : Fin 512 → Fin 256 → ℝ) : Prop :=
  ∀ t d, x (ix3 0 t d) = ((X t d : ℝ) : EReal)

variable (hx : Holds x X)
include hx

theorem tok_at (t : Fin 512) (d : Fin 256) : k0_pay4 x (ix2 t d) = ((X t d : ℝ) : EReal) := by
  pointwise [k0_pay4]
  exact hx t d

theorem sq_at (t : Fin 512) (o : Fin 1) : k0_pay5 x (ix2 t o) = ((M.sq X t : ℝ) : EReal) := by
  pointwise [k0_pay5]
  simp only [tok_at hx, ← EReal.coe_mul, ← coe_sum]
  rfl

theorem gram_at (i j : Fin 512) : k0_pay6 x (ix2 i j) = ((gram X i j : ℝ) : EReal) := by
  pointwise [k0_pay6]
  simp only [tok_at hx, ← EReal.coe_mul, ← coe_sum]
  rfl

theorem near_at (s j : Fin 512) : k0_pay7 x (ix2 s j) = ((near X j s : ℝ) : EReal) := by
  pointwise [k0_pay7]
  rw [sq_at hx, gram_at hx, ofBits_two, ofBits_big, ← EReal.coe_mul, ← EReal.coe_sub, near, Scalar.select]
  rw [word_eq]
  by_cases h : s = j <;> simp [h]

theorem sqRow_at (o : Fin 1) (j : Fin 512) : k0_pay8 x (ix2 o j) = ((M.sq X j : ℝ) : EReal) := by
  pointwise [k0_pay8]
  exact sq_at hx j 0

theorem minA_at {σ : Fin 4 → Fin 512} (j : Fin 512) (h : Smallest (near X j) σ) (o : Fin 1) :
    k0_pay9 x (ix2 o j) = ((near X j (σ 0) : ℝ) : EReal) := by
  pointwise [k0_pay9]
  simp only [near_at hx, ofBits_inf]
  exact h.min_first

theorem minB_at {σ : Fin 4 → Fin 512} (hX : ∀ t d, |X t d| ≤ lim) (j : Fin 512) (h : Smallest (near X j) σ) (o : Fin 1) :
    k0_pay10 x (ix2 o j) = ((near X j (σ 1) : ℝ) : EReal) := by
  pointwise [k0_pay10]
  simp only [near_at hx, ofBits_inf, ofBits_big, minA_at hx j h]
  exact h.min_next (near_le_big hX) 0

omit hx in
theorem dist_of {s j : Fin 512} (h : s ≠ j) :
    Ideal.sqrt (max (((near X j s : ℝ) : EReal) + ((M.sq X j : ℝ) : EReal)) 0 + ((e12 : ℝ) : EReal)) = ((M.dist X j s : ℝ) : EReal) := by
  rw [← EReal.coe_add, max_real_zero, ← EReal.coe_add, sqrt_real (add_nonneg (le_max_right _ _) e12_pos.le), near_add_sq h]

/-- The mean distance to the four nearest tokens. -/
theorem knn_at {σ : Fin 4 → Fin 512} (hX : ∀ t d, |X t d| ≤ lim) (j : Fin 512) (h : Smallest (far X j) σ)
    (hp : ∃ p, ∀ k, σ k ≠ p) (o : Fin 1) : knn x (ix2 j o) = ((mean4 X j σ : ℝ) : EReal) := by
  have hs := smallest_near hX h
  have hn := ne_self hX h hp
  obtain rfl : o = 0 := Subsingleton.elim _ _
  have h2 := hs.min_next (near_le_big hX) 1
  have h3 := hs.min_next (near_le_big hX) 2
  simp only [show (Fin.castSucc 1 : Fin 4) = 1 from rfl, show (Fin.succ 1 : Fin 4) = 2 from rfl] at h2
  simp only [show (Fin.castSucc 2 : Fin 4) = 2 from rfl, show (Fin.succ 2 : Fin 4) = 3 from rfl] at h3
  pointwise [knn, k0_pay13, k0_pay12, k0_pay11]
  simp only [near_at hx, ofBits_inf, ofBits_big, ofBits_e12, ofBits_quarter, minA_at hx j hs, minB_at hx hX j hs, sqRow_at hx, h2, h3,
    dist_of (hn _)]
  rw [← EReal.coe_add, ← EReal.coe_add, ← EReal.coe_add, ← EReal.coe_mul, mean4, mul_one_div]

theorem mean_at (o : Fin 1) (d : Fin 256) : mu x (ix2 o d) = ((M.mean X d : ℝ) : EReal) := by
  pointwise [mu, k0_pay14]
  simp only [tok_at hx, ← coe_sum, ofBits_n512]
  exact div_real _ (by norm_num)

theorem off_at (t : Fin 512) (d : Fin 256) : k0_pay15 (k0_pay4 x) (ix2 t d) = ((X t d - M.mean X d : ℝ) : EReal) := by
  pointwise [k0_pay15]
  rw [tok_at hx, show k0_pay14 (k0_pay4 x) (ix2 0 d) = _ from mean_at hx 0 d, ← EReal.coe_sub]

theorem cdist_at (t : Fin 512) (o : Fin 1) : cdist x (ix2 t o) = ((M.cdist X t : ℝ) : EReal) := by
  pointwise [cdist, k0_pay16]
  simp only [off_at hx, ← EReal.coe_mul, ← coe_sum, ofBits_e12, ← EReal.coe_add]
  exact sqrt_real (add_nonneg (Finset.sum_nonneg fun _ _ => mul_self_nonneg _) e12_pos.le)

theorem nrm_at (t : Fin 512) (o : Fin 1) : nrm x (ix2 t o) = ((M.nrm X t : ℝ) : EReal) := by
  pointwise [nrm, k0_pay17]
  rw [sq_at hx, ofBits_e12, ← EReal.coe_add]
  exact sqrt_real (add_nonneg (sq_nonneg X t) e12_pos.le)

theorem dev_at (o : Fin 1) (d : Fin 256) : dev2 x (ix2 o d) = ((dev X d : ℝ) : EReal) := by
  pointwise [dev2, k0_pay18]
  simp only [off_at hx, ← EReal.coe_mul, ← coe_sum]
  rfl

/-- The context row. -/
theorem ctx_at (o : Fin 1) (j : Fin 512) : ctxRow x (ix2 o j) = ((ctx X j : ℝ) : EReal) := by
  pointwise [ctxRow, k0_pay19]
  rw [ctx]
  split
  · exact mean_at hx 0 _
  · rw [dev_at hx, ofBits_n512, ofBits_e6, div_real _ (by norm_num), ← EReal.coe_add]
    exact sqrt_real (add_nonneg (div_nonneg (dev_nonneg X _) (by norm_num)) e6_pos.le)

variable {kn : Fin 512 → ℝ} (hk : ∀ t o, knn x (ix2 t o) = ((kn t : ℝ) : EReal))
include hk

/-- The features. -/
theorem feat_at (t : Fin 512) (j : Fin 260) : sf x (ix2 t j) = ((feat X kn t j : ℝ) : EReal) := by
  pointwise [sf, k0_pay20]
  rw [feat]
  by_cases h0 : j.val < 256
  · rw [dif_pos h0, dif_pos h0, tok_at hx]
  rw [dif_neg h0, dif_neg h0]
  by_cases h1 : j.val = 256
  · rw [dif_pos (by omega), if_pos h1, cdist_at hx]
  rw [dif_neg (by omega), if_neg h1]
  by_cases h2 : j.val = 257
  · rw [dif_pos (by omega), if_pos h2, hk]
  rw [dif_neg (by omega), if_neg h2]
  by_cases h3 : j.val = 258
  · rw [dif_pos (by omega), if_pos h3, nrm_at hx]
  · rw [dif_neg (by omega), if_neg h3]
    rfl

theorem featBlk_at (o : Fin 1) (t : Fin 512) (j : Fin 260) : sfBlk x (ix3 o t j) = ((feat X kn t j : ℝ) : EReal) := by
  pointwise [sfBlk, k0_pay21]
  exact feat_at hx hk t j

/-- The reciprocal guarded norm of the features. -/
theorem invLen_at (t : Fin 512) :
    Ideal.div 1 (Ideal.sqrt (k0_pay27 (k0_pay5 x) (cdist x) (ix2 t 0) + k0_pay28 (knn x) (ix2 t 0) + nrm x (ix2 t 0) * nrm x (ix2 t 0))
      + Ideal.ofBits .f32 841731191#32) = ((1 / len X kn t : ℝ) : EReal) := by
  pointwise [k0_pay27, k0_pay28]
  rw [sq_at hx, cdist_at hx, hk, nrm_at hx, ofBits_e8, ← EReal.coe_mul, ← EReal.coe_mul, ← EReal.coe_mul, ← EReal.coe_add,
    ← EReal.coe_add, ← EReal.coe_add, sqrt_real (len_arg_nonneg X kn t), ← EReal.coe_add]
  exact div_real 1 (len_pos X kn t).ne'

/-- The similarity. -/
theorem sim_at (o : Fin 1) (i j : Fin 512) : simBlk x (ix3 o i j) = ((M.sim X kn i j : ℝ) : EReal) := by
  pointwise [simBlk, k0_pay1]
  rw [invLen_at hx hk, invLen_at hx hk]
  simp only [gram_at hx, cdist_at hx, hk, nrm_at hx, ← EReal.coe_mul, ← EReal.coe_add]
  rfl

omit hx hk in
theorem inv_in_eq : (Named.named (F := Ideal) (φ := .f32) κ "inv_in" 984205386#32 : EReal) = ((1 / 772 : ℝ) : EReal) :=
  IdealRules.named_const.ideal_named_scalar _ _ _ _ rfl

/-- The mean of a row of the layer normalisation, -/
theorem muH_at (t : Fin 512) (o : Fin 1) : muH x (ix2 t o) = ((muF X kn t : ℝ) : EReal) := by
  have h1 : ∀ j, k0_pay20 (k0_pay4 x) (knn x) (cdist x) (nrm x) (ix2 t j) = ((feat X kn t j : ℝ) : EReal) := feat_at hx hk t
  have h2 : ∀ j, k0_pay19 (mu x) (dev2 x) (ix2 0 j) = ((ctx X j : ℝ) : EReal) := ctx_at hx 0
  pointwise [muH, k0_pay22]
  simp only [h1, h2, inv_in_eq, ← coe_sum, ← EReal.coe_add, ← EReal.coe_mul]
  rw [muF_split]

/-- and its reciprocal standard deviation. -/
theorem invSd_at (t : Fin 512) (o : Fin 1) : invSd x (ix2 t o) = (((sdF X kn t)⁻¹ : ℝ) : EReal) := by
  have h1 : ∀ j, k0_pay20 (k0_pay4 x) (knn x) (cdist x) (nrm x) (ix2 t j) = ((feat X kn t j : ℝ) : EReal) := feat_at hx hk t
  have h2 : ∀ j, k0_pay19 (mu x) (dev2 x) (ix2 0 j) = ((ctx X j : ℝ) : EReal) := ctx_at hx 0
  have h3 : k0_pay22 (k0_pay4 x) (knn x) (mu x) (cdist x) (nrm x) (dev2 x) (ix2 t o) = ((muF X kn t : ℝ) : EReal) := muH_at hx hk t o
  pointwise [invSd, k0_pay23]
  simp only [h1, h2, h3, inv_in_eq, ofBits_e5, ← coe_sum, ← EReal.coe_add, ← EReal.coe_mul, ← EReal.coe_sub]
  rw [max_real_zero, varF_split, ← EReal.coe_add]
  exact rsqrt_real (add_pos_of_nonneg_of_pos (varF_nonneg X kn t) e5_pos)

variable {g be : Vec Ideal S772 .f32} {w1 : Vec Ideal S772x256 .f32} {b1 b2 : Vec Ideal S256 .f32} {w2 : Vec Ideal S256x256 .f32}
  {G : Fin 772 → ℝ} {W : Fin 772 → Fin 256 → ℝ} (hg : ∀ k, g (ix1 k) = ((G k : ℝ) : EReal))
  (hw : ∀ k o, w1 (ix2 k o) = ((W k o : ℝ) : EReal))
include hg hw

/-- The embedding of a token: the layer normalisation through the first linear map, the Gaussian error unit, the second
    linear map. -/
theorem embed_at (o : Fin 1) (t : Fin 512) (c : Fin 256) :
    uBlk x g w1 w2 b2 (k0_pay2 w1 g) (k0_pay3 w1 be b1) (ix3 o t c)
      = embed (fun n => ((core X kn t G W n : ℝ) : EReal) + (∑ k, be (ix1 k) * w1 (ix2 k n) + b1 (ix1 n)))
          (fun n => w2 (ix2 n c)) (b2 (ix1 c)) := by
  have hp : ∀ n, k0_pay2 w1 g (ix2 0 n) = ((∑ k, G k * W k n : ℝ) : EReal) := fun n => by
    pointwise [k0_pay2]
    simp only [hg, hw, ← EReal.coe_mul, ← coe_sum]
  have hq : ∀ n, k0_pay3 w1 be b1 (ix2 0 n) = ∑ k, be (ix1 k) * w1 (ix2 k n) + b1 (ix1 n) := fun n => by
    pointwise [k0_pay3]
  have hG : ∀ k, k0_pay24 g (ix2 0 k) = ((G k : ℝ) : EReal) := fun k => by
    pointwise [k0_pay24]
    exact hg k
  have hG' : ∀ a (j : Fin 260), k0_pay25 g (ix2 a j) = ((G ⟨j.val, by omega⟩ : ℝ) : EReal) := fun a j => by
    pointwise [k0_pay25]
    exact hG _
  pointwise [uBlk, k0_pay26]
  simp only [feat_at hx hk, ctx_at hx, muH_at hx hk, invSd_at hx hk, hG, hG', hp, hq, ← EReal.coe_mul, ← EReal.coe_sub, ← EReal.coe_add,
    ← coe_sum, hw, core_split]
  rfl

end Cert.KI

end
-- ==== Proof.Algebraic.lean ====
/- The kernel's four results are the reference's. -/
module

public import proofs.«01_k».proof.Defs
public import proofs.«01_k».proof.Proof.Pre
public import proofs.«01_k».proof.Proof.KI.Read
public import proofs.«01_k».proof.Proof.KI.Value
public import proofs.«01_k».proof.Proof.RI.Read
public import proofs.«01_k».proof.Proof.Gen.Pre_inputs_ok
public import proofs.«01_k».proof.Proof.Gen.ReferenceIdeal.Run
public import Idealize.ShloMosaic.Lib.Claim

@[expose] public section

noncomputable section

namespace Cert.Proof

open Idealize.ShloMosaic Idealize.ShloMosaic.TcCoe Idealize.SL.Sem Cert.M

section Values

open Cert.KernelIdeal Cert.KernelIdeal.Gen Cert.KI Cert.ReferenceIdeal.Read

variable {x : FVec Ideal Cert.KernelIdeal.S8x512x256 .f32} {g be : FVec Ideal Cert.KernelIdeal.S772 .f32}
  {w1 : FVec Ideal Cert.KernelIdeal.S772x256 .f32} {b1 b2 : FVec Ideal Cert.KernelIdeal.S256 .f32}
  {w2 : FVec Ideal Cert.KernelIdeal.S256x256 .f32}

/-- A batch's tokens as reals. -/
def tokens (x : FVec Ideal Cert.KernelIdeal.S8x512x256 .f32) (b : Fin 8) (t : Fin 512) (d : Fin 256) : ℝ := (x (ix3 b t d)).toReal

/-- The mean distance to a token's four nearest. -/
def meanNear (x : FVec Ideal Cert.KernelIdeal.S8x512x256 .f32) (b : Fin 8) (t : Fin 512) : ℝ :=
  mean4 (tokens x b) t (Cert.RI.nearest x b t)

variable (H : Cert.Pre_inputs_ok.fn x g be w1 b1 w2 b2 = fun _ => 1#1) (b : Fin 8)

include H

theorem tokens_le (t : Fin 512) (d : Fin 256) : |tokens x b t d| ≤ lim := (real_of_abs_le (Cert.Pre.bound H b t d)).2

theorem ref_holds : Cert.RI.Holds x b (tokens x b) := fun t d => (real_of_abs_le (Cert.Pre.bound H b t d)).1.symm

theorem ker_holds : Cert.KI.Holds (xblk x b) (tokens x b) := fun t d => by
  refine Eq.trans ?_ (ref_holds H b t d)
  refine congrArg x ?_
  funext a
  match a with
  | 0 => rfl
  | 1 => rfl
  | 2 => rfl

theorem ref_knn (t : Fin 512) (o : Fin 1) : val_main_v32 (F := Ideal) x (ix3 b t o) = ((meanNear x b t : ℝ) : EReal) :=
  Cert.RI.knn_at (ref_holds H b) (tokens_le H b) t (Cert.Pre.drops H b t) o

theorem ker_knn (t : Fin 512) (o : Fin 1) : knn (F := Ideal) (xblk x b) (ix2 t o) = ((meanNear x b t : ℝ) : EReal) :=
  Cert.KI.knn_at (ker_holds H b) (tokens_le H b) t (Cert.RI.smallest_far (ref_holds H b) t (Cert.Pre.drops H b t))
    (Cert.RI.nearest_miss t) o

theorem ctx_same (j : Fin 512) : ctxRow (F := Ideal) (xblk x b) (ix2 0 j) = val_main_v61 (F := Ideal) x (ix2 b j) :=
  (Cert.KI.ctx_at (ker_holds H b) 0 j).trans (Cert.RI.ctx_at (ref_holds H b) j).symm

theorem feat_same (t : Fin 512) (j : Fin 260) : sfBlk (F := Ideal) (xblk x b) (ix3 0 t j) = val_main_v53 (F := Ideal) x (ix3 b t j) :=
  (Cert.KI.featBlk_at (ker_holds H b) (ker_knn H b) 0 t j).trans (Cert.RI.feat_at (ref_holds H b) (ref_knn H b) t j).symm

theorem sim_same (i j : Fin 512) : simBlk (F := Ideal) (xblk x b) (ix3 0 i j) = val_main_v158 (F := Ideal) x (ix3 b i j) :=
  (Cert.KI.sim_at (ker_holds H b) (ker_knn H b) 0 i j).trans (Cert.RI.sim_at (ref_holds H b) (ref_knn H b) i j).symm

theorem embed_same (t : Fin 512) (c : Fin 256) :
    uBlk (F := Ideal) (xblk x b) g w1 w2 b2 (k0_pay2 (F := Ideal) w1 g) (k0_pay3 (F := Ideal) w1 be b1) (ix3 0 t c) = val_main_v97 (F := Ideal) x g be w1 b1 w2 b2 (ix3 b t c) := by
  have hg : ∀ k, g (ix1 k) = (((g (ix1 k)).toReal : ℝ) : EReal) := fun k => (real_of_abs_lt (Cert.Pre.scale H k)).symm
  have hw : ∀ k o, w1 (ix2 k o) = (((w1 (ix2 k o)).toReal : ℝ) : EReal) := fun k o => (real_of_abs_lt (Cert.Pre.weights H k o)).symm
  exact (Cert.KI.embed_at (ker_holds H b) (ker_knn H b) hg hw 0 t c).trans
    (Cert.RI.embed_at (ref_holds H b) (ref_knn H b) hg hw t c).symm

end Values

/-- An index of three axes is its entries. -/
theorem idx3 {a b c : ℕ} (y : Shape.Idx ⟨3, ![a, b, c]⟩) : y = ix3 (y 0) (y 1) (y 2) := by
  funext i
  match i with
  | 0 => rfl
  | 1 => rfl
  | 2 => rfl

theorem idx2 {a b : ℕ} (y : Shape.Idx ⟨2, ![a, b]⟩) : y = ix2 (y 0) (y 1) := by
  funext i
  match i with
  | 0 => rfl
  | 1 => rfl

section Arrays

open Cert.KI

variable {m : (ℓ : Loc Cert.KernelIdeal.nD Cert.KernelIdeal.τ Cert.KernelIdeal.sig) → Buf (Elt Ideal) ℓ}
  (hpre : Cert.Pre_KernelIdeal_inputs_ok m) (c : Dev Cert.KernelIdeal.nD)

include hpre

theorem pre_args : Cert.Pre_inputs_ok.fn (F := Ideal) (arg0 m c) (arg1 m c) (arg2 m c) (arg3 m c) (arg4 m c) (arg5 m c) (arg6 m c)
    = fun _ => 1#1 := hpre c

/-- The first result. -/
theorem u_eq : uAll m c = Cert.ReferenceIdeal.Read.val_main_v97 (F := Ideal) (arg0 m c) (arg1 m c) (arg2 m c) (arg3 m c) (arg4 m c)
    (arg5 m c) (arg6 m c) := by
  funext y
  rw [idx3 y]
  exact (congrArg (uOf m c (y 0)) (idx3 _)).trans (embed_same (pre_args hpre c) (y 0) (y 1) (y 2))

/-- The second. -/
theorem sf_eq : sfAll m c = Cert.ReferenceIdeal.Read.val_main_v53 (F := Ideal) (arg0 m c) := by
  funext y
  rw [idx3 y]
  exact (congrArg (sfBlk (xblk (arg0 m c) (y 0))) (idx3 _)).trans (feat_same (pre_args hpre c) (y 0) (y 1) (y 2))

/-- The third. -/
theorem sim_eq : simAll m c = Cert.ReferenceIdeal.Read.val_main_v158 (F := Ideal) (arg0 m c) := by
  funext y
  rw [idx3 y]
  exact (congrArg (simBlk (xblk (arg0 m c) (y 0))) (idx3 _)).trans (sim_same (pre_args hpre c) (y 0) (y 1) (y 2))

/-- The fourth. -/
theorem ctx_eq : ctxAll m c = Cert.ReferenceIdeal.Read.val_main_v61 (F := Ideal) (arg0 m c) := by
  funext y
  rw [idx2 y]
  exact (congrArg (ctxRow (xblk (arg0 m c) (y 0))) (idx2 _)).trans (ctx_same (pre_args hpre c) (y 0) (y 1))

end Arrays

/-- Both programs end, and their results are the same arrays. -/
theorem same : Cert.algebraic_KernelIdeal_ReferenceIdeal_pre_inputs_ok := by
  intro m g m' g' hpre hagree
  refine ⟨fun c => Cert.KI.uAll m c, fun c => Cert.KI.sfAll m c, fun c => Cert.KI.simAll m c, fun c => Cert.KI.ctxAll m c, ?_, ?_⟩
  · exact (θ_run Cert.KernelIdeal.defs _ _).mono (fun _ h c => ⟨(h.1 c).1.1, (h.1 c).1.2.1, (h.1 c).1.2.2.1, (h.1 c).1.2.2.2, (h.1 c).2⟩)
      (Cert.KI.run_vals (F := Ideal) m g)
  · refine (θ_run Cert.ReferenceIdeal.defs _ _).mono (fun r h c => ?_) (Cert.ReferenceIdeal.Value.run (F := Ideal) m' g')
    obtain ⟨h0, h1, h2, h3, h4, h5, h6⟩ := hagree c
    obtain ⟨r0, r1, r2, r3, ra⟩ := h c
    rw [Cert.ReferenceIdeal.Read.val_main_v97_eq] at r0
    rw [Cert.ReferenceIdeal.Read.val_main_v53_eq] at r1
    rw [Cert.ReferenceIdeal.Read.val_main_v158_eq] at r2
    rw [Cert.ReferenceIdeal.Read.val_main_v61_eq] at r3
    simp only [StableHlo.launchContents_devRef, h0, h1, h2, h3, h4, h5, h6] at r0 r1 r2 r3
    exact ⟨r0.trans (u_eq hpre c).symm, r1.trans (sf_eq hpre c).symm, r2.trans (sim_eq hpre c).symm, r3.trans (ctx_eq hpre c).symm, ra⟩

end Cert.Proof

end
-- ==== Proof.lean ====
/- The proof of the claims. -/
module

public import proofs.«01_k».proof.Defs
public import proofs.«01_k».proof.Proof.Frames
public import proofs.«01_k».proof.Proof.Algebraic
public import proofs.«01_k».proof.Proof.Gen.Pre_inputs_ok

@[expose] public section

noncomputable section

namespace Cert.Proof

/-- The five claims. -/
theorem claim : Cert.Claim := ⟨Cert.Kernel.Gen.facts, Cert.KernelIdeal.Gen.facts, Cert.ReferenceIdeal.Gen.facts, Cert.Pre_inputs_ok.Gen.facts,
  frame_p, frame_pi, fun m ρ _ => frame_pi m ρ trivial, frame_ri, fun m ρ _ => frame_ri m ρ trivial, preserves, same⟩

end Cert.Proof

end
